-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 2048]⟩ ⟨2, ![4096, 2048]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![4096, 8192]⟩ (Layout.meshBlock [2, 2, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = Layout.blockN ⟨2, ![1024, 8192]⟩ ⟨2, ![2048, 8192]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x8192 : Shape := ⟨2, ![2048, 8192]⟩
abbrev S_ : Shape := ⟨0, ![]⟩
abbrev S2048x1024 : Shape := ⟨2, ![2048, 1024]⟩
abbrev S1024x8192 : Shape := ⟨2, ![1024, 8192]⟩
abbrev S4x1024x256 : Shape := ⟨3, ![4, 1024, 256]⟩
abbrev S2x8x1024x256 : Shape := ⟨4, ![2, 8, 1024, 256]⟩
abbrev S4 : Shape := ⟨1, ![4]⟩
abbrev S2x8 : Shape := ⟨2, ![2, 8]⟩
abbrev S1024x1024 : Shape := ⟨2, ![1024, 1024]⟩
abbrev S1024x256 : Shape := ⟨2, ![1024, 256]⟩
abbrev S1x1024x256 : Shape := ⟨3, ![1, 1024, 256]⟩
abbrev S1 : Shape := ⟨1, ![1]⟩
abbrev S1x1x1024x256 : Shape := ⟨4, ![1, 1, 1024, 256]⟩
abbrev S1x1 : Shape := ⟨2, ![1, 1]⟩

abbrev nBuf : Space → Nat
  | .hbm => 30
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2048x1024, .bf16⟩
  | .hbm, ⟨28, _⟩ => ⟨S1024x8192, .bf16⟩
  | .hbm, ⟨29, _⟩ => ⟨S1024x8192, .f32⟩
  | .local _ .vmem, ⟨0, _⟩ => ⟨S2048x2048, .bf16⟩
  | .local _ .vmem, ⟨1, _⟩ => ⟨S2048x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S2x8x1024x256, .bf16⟩
  | .local _ .vmem, ⟨5, _⟩ => ⟨S2x8x1024x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  (ofTc nBuf bufTy 1 78 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_c_2 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_c_4 : Ref sig .tc := ⟨.hbm, 16, rfl⟩
abbrev main_v10 : Ref sig .tc := ⟨.hbm, 17, rfl⟩
abbrev main_v11 : Ref sig .tc := ⟨.hbm, 18, rfl⟩
abbrev main_c_5 : Ref sig .tc := ⟨.hbm, 19, rfl⟩
abbrev main_v12 : Ref sig .tc := ⟨.hbm, 20, rfl⟩
abbrev main_c_6 : Ref sig .tc := ⟨.hbm, 21, rfl⟩
abbrev main_v13 : Ref sig .tc := ⟨.hbm, 22, rfl⟩
abbrev main_c_7 : Ref sig .tc := ⟨.hbm, 23, rfl⟩
abbrev main_v14 : Ref sig .tc := ⟨.hbm, 24, rfl⟩
abbrev main_v15 : Ref sig .tc := ⟨.hbm, 25, rfl⟩
abbrev main_c_8 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_29 : BitVec 32 := 0#32
  let c1_i32_26 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v45 : BitVec 32 := Scalar.subi c1_i32_26 v2
  let c8_i32_28 : BitVec 32 := 8#32
  let v46 : BitVec 32 := Scalar.muli v45 c8_i32_28
  let v47 : BitVec 32 := Scalar.addi c0_i32_29 v46
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_30 : BitVec 32 := 4#32
  let v48 : BitVec 32 := Scalar.muli v5 c4_i32_30
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_31 : BitVec 32 := 1#32
  let v50 : BitVec 32 := Scalar.muli v8 c1_i32_31
  let v51 : BitVec 32 := Scalar.addi v49 v50
  v51.toNat
def k0_dev2 (d0 : Dev nD) : Nat :=
  let c0_i32_34 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_33 : BitVec 32 := 8#32
  let v52 : BitVec 32 := Scalar.muli v2 c8_i32_33
  let v53 : BitVec 32 := Scalar.addi c0_i32_34 v52
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_35 : BitVec 32 := 4#32
  let v54 : BitVec 32 := Scalar.muli v24 c4_i32_35
  let v55 : BitVec 32 := Scalar.addi v53 v54
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_36 : BitVec 32 := 1#32
  let v56 : BitVec 32 := Scalar.muli v27 c1_i32_36
  let v57 : BitVec 32 := Scalar.addi v55 v56
  v57.toNat
def k0_dev3 (d0 : Dev nD) : Nat :=
  let c0_i32_39 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_38 : BitVec 32 := 8#32
  let v58 : BitVec 32 := Scalar.muli v2 c8_i32_38
  let v59 : BitVec 32 := Scalar.addi c0_i32_39 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_40 : BitVec 32 := 4#32
  let v60 : BitVec 32 := Scalar.muli v40 c4_i32_40
  let v61 : BitVec 32 := Scalar.addi v59 v60
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_41 : BitVec 32 := 1#32
  let v62 : BitVec 32 := Scalar.muli v43 c1_i32_41
  let v63 : BitVec 32 := Scalar.addi v61 v62
  v63.toNat
def k0_off1 (d0 : Dev nD) : Fin 2 → Nat :=
  let c0_44 : Index := 0#32
  let c1_i32_43 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v66 : BitVec 32 := Scalar.subi c1_i32_43 v2
  let c1024_i32 : BitVec 32 := 1024#32
  let v67 : BitVec 32 := Scalar.muli v66 c1024_i32
  let v68 : Index := Scalar.indexCast v67
  ![0, v68.toNat]
def k0_dev4 (d0 : Dev nD) : Nat :=
  let c0_i32_60 : BitVec 32 := 0#32
  let c1_i32_54 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v92 : BitVec 32 := Scalar.subi c1_i32_54 v2
  let c8_i32_59 : BitVec 32 := 8#32
  let v93 : BitVec 32 := Scalar.muli v92 c8_i32_59
  let v94 : BitVec 32 := Scalar.addi c0_i32_60 v93
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v95 : BitVec 32 := Scalar.muli v5 c4_i32_61
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v97 : BitVec 32 := Scalar.muli v8 c1_i32_62
  let v98 : BitVec 32 := Scalar.addi v96 v97
  v98.toNat
def k0_dev5 (d0 : Dev nD) : Nat :=
  let c0_i32_73 : BitVec 32 := 0#32
  let c1_i32_67 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v107 : BitVec 32 := Scalar.subi c1_i32_67 v2
  let c8_i32_72 : BitVec 32 := 8#32
  let v108 : BitVec 32 := Scalar.muli v107 c8_i32_72
  let v109 : BitVec 32 := Scalar.addi c0_i32_73 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_74 : BitVec 32 := 4#32
  let v110 : BitVec 32 := Scalar.muli v5 c4_i32_74
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_75 : BitVec 32 := 1#32
  let v112 : BitVec 32 := Scalar.muli v8 c1_i32_75
  let v113 : BitVec 32 := Scalar.addi v111 v112
  v113.toNat
def k0_dev6 (d0 : Dev nD) : Nat :=
  let c0_i32_86 : BitVec 32 := 0#32
  let c1_i32_80 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v122 : BitVec 32 := Scalar.subi c1_i32_80 v2
  let c8_i32_85 : BitVec 32 := 8#32
  let v123 : BitVec 32 := Scalar.muli v122 c8_i32_85
  let v124 : BitVec 32 := Scalar.addi c0_i32_86 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_87 : BitVec 32 := 4#32
  let v125 : BitVec 32 := Scalar.muli v5 c4_i32_87
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v127 : BitVec 32 := Scalar.muli v8 c1_i32_88
  let v128 : BitVec 32 := Scalar.addi v126 v127
  v128.toNat
def k0_dev7 (d0 : Dev nD) : Nat :=
  let c0_i32_99 : BitVec 32 := 0#32
  let c1_i32_93 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v137 : BitVec 32 := Scalar.subi c1_i32_93 v2
  let c8_i32_98 : BitVec 32 := 8#32
  let v138 : BitVec 32 := Scalar.muli v137 c8_i32_98
  let v139 : BitVec 32 := Scalar.addi c0_i32_99 v138
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_100 : BitVec 32 := 4#32
  let v140 : BitVec 32 := Scalar.muli v5 c4_i32_100
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_101 : BitVec 32 := 1#32
  let v142 : BitVec 32 := Scalar.muli v8 c1_i32_101
  let v143 : BitVec 32 := Scalar.addi v141 v142
  v143.toNat
def k0_off2 (d0 : Dev nD) : Fin 2 → Nat :=
  let c0_107 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1024_i32_106 : BitVec 32 := 1024#32
  let v152 : BitVec 32 := Scalar.muli v2 c1024_i32_106
  let v153 : Index := Scalar.indexCast v152
  ![0, v153.toNat]
def k0_dev8 (d0 : Dev nD) : Nat :=
  let c0_i32_146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_145 : BitVec 32 := 8#32
  let v184 : BitVec 32 := Scalar.muli v2 c8_i32_145
  let v185 : BitVec 32 := Scalar.addi c0_i32_146 v184
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_147 : BitVec 32 := 4#32
  let v186 : BitVec 32 := Scalar.muli v24 c4_i32_147
  let v187 : BitVec 32 := Scalar.addi v185 v186
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_148 : BitVec 32 := 1#32
  let v188 : BitVec 32 := Scalar.muli v27 c1_i32_148
  let v189 : BitVec 32 := Scalar.addi v187 v188
  v189.toNat
def k0_off3 (d0 : Dev nD) (c0_i32_154 : BitVec 32) : Fin 2 → Nat :=
  let c0_i32_158 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1024_i32_153 : BitVec 32 := 1024#32
  let v198 : BitVec 32 := Scalar.muli v11 c1024_i32_153
  let v199 : BitVec 32 := Scalar.addi v198 c0_i32_154
  ![0, v199.toNat]
def k0_dev9 (d0 : Dev nD) : Nat :=
  let c0_i32_198 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_197 : BitVec 32 := 8#32
  let v232 : BitVec 32 := Scalar.muli v2 c8_i32_197
  let v233 : BitVec 32 := Scalar.addi c0_i32_198 v232
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_199 : BitVec 32 := 4#32
  let v234 : BitVec 32 := Scalar.muli v40 c4_i32_199
  let v235 : BitVec 32 := Scalar.addi v233 v234
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_200 : BitVec 32 := 1#32
  let v236 : BitVec 32 := Scalar.muli v43 c1_i32_200
  let v237 : BitVec 32 := Scalar.addi v235 v236
  v237.toNat
def k0_dev10 (d0 : Dev nD) : Nat :=
  let c0_i32_249 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_248 : BitVec 32 := 8#32
  let v280 : BitVec 32 := Scalar.muli v2 c8_i32_248
  let v281 : BitVec 32 := Scalar.addi c0_i32_249 v280
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_250 : BitVec 32 := 4#32
  let v282 : BitVec 32 := Scalar.muli v24 c4_i32_250
  let v283 : BitVec 32 := Scalar.addi v281 v282
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_251 : BitVec 32 := 1#32
  let v284 : BitVec 32 := Scalar.muli v27 c1_i32_251
  let v285 : BitVec 32 := Scalar.addi v283 v284
  v285.toNat
def k0_dev11 (d0 : Dev nD) : Nat :=
  let c0_i32_300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_299 : BitVec 32 := 8#32
  let v328 : BitVec 32 := Scalar.muli v2 c8_i32_299
  let v329 : BitVec 32 := Scalar.addi c0_i32_300 v328
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_301 : BitVec 32 := 4#32
  let v330 : BitVec 32 := Scalar.muli v40 c4_i32_301
  let v331 : BitVec 32 := Scalar.addi v329 v330
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_302 : BitVec 32 := 1#32
  let v332 : BitVec 32 := Scalar.muli v43 c1_i32_302
  let v333 : BitVec 32 := Scalar.addi v331 v332
  v333.toNat
def k0_dev12 (d0 : Dev nD) : Nat :=
  let c0_i32_339 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_338 : BitVec 32 := 8#32
  let v361 : BitVec 32 := Scalar.muli v2 c8_i32_338
  let v362 : BitVec 32 := Scalar.addi c0_i32_339 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_340 : BitVec 32 := 4#32
  let v363 : BitVec 32 := Scalar.muli v24 c4_i32_340
  let v364 : BitVec 32 := Scalar.addi v362 v363
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_341 : BitVec 32 := 1#32
  let v365 : BitVec 32 := Scalar.muli v27 c1_i32_341
  let v366 : BitVec 32 := Scalar.addi v364 v365
  v366.toNat
def k0_off4 (d0 : Dev nD) (c1_i32_346 : BitVec 32) (c0_i32_360 : BitVec 32) : Fin 2 → Nat :=
  let c0_i32_364 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v375 : BitVec 32 := Scalar.subi v11 c1_i32_346
  let c8_i32_347 : BitVec 32 := 8#32
  let c0_i32_348 : BitVec 32 := 0#32
  let v376 : BitVec 1 := Scalar.cmpi .eq c8_i32_347 c0_i32_348
  let c1_i32_349 : BitVec 32 := 1#32
  let v377 : BitVec 32 := Scalar.select v376 c1_i32_349 c8_i32_347
  let v378 : BitVec 32 := Scalar.remsi v375 v377
  let c0_i32_351 : BitVec 32 := 0#32
  let v380 : BitVec 1 := Scalar.cmpi .slt v378 c0_i32_351
  let c0_i32_352 : BitVec 32 := 0#32
  let v381 : BitVec 1 := Scalar.cmpi .slt v377 c0_i32_352
  let v382 : BitVec 1 := Scalar.xori v380 v381
  let c0_i32_350 : BitVec 32 := 0#32
  let v379 : BitVec 1 := Scalar.cmpi .ne v378 c0_i32_350
  let v383 : BitVec 1 := Scalar.andi v382 v379
  let v384 : BitVec 32 := Scalar.addi v378 v377
  let v385 : BitVec 32 := Scalar.select v383 v384 v378
  let c1024_i32_359 : BitVec 32 := 1024#32
  let v391 : BitVec 32 := Scalar.muli v385 c1024_i32_359
  let v392 : BitVec 32 := Scalar.addi v391 c0_i32_360
  ![0, v392.toNat]
def k0_off4_at (r : Fin 14) : BitVec 32 × BitVec 32 :=
  if r.val < 7 then
    if r.val < 3 then
      if r.val < 1 then
        (1#32, 0#32)
      else
        if r.val < 2 then
          (1#32, 256#32)
        else
          (2#32, 0#32)
    else
      if r.val < 5 then
        if r.val < 4 then
          (2#32, 256#32)
        else
          (3#32, 0#32)
      else
        if r.val < 6 then
          (3#32, 256#32)
        else
          (4#32, 0#32)
  else
    if r.val < 10 then
      if r.val < 8 then
        (4#32, 256#32)
      else
        if r.val < 9 then
          (5#32, 0#32)
        else
          (5#32, 256#32)
    else
      if r.val < 12 then
        if r.val < 11 then
          (6#32, 0#32)
        else
          (6#32, 256#32)
      else
        if r.val < 13 then
          (1#32, 512#32)
        else
          (1#32, 768#32)
def k0_dev13 (d0 : Dev nD) : Nat :=
  let c0_i32_392 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_391 : BitVec 32 := 8#32
  let v410 : BitVec 32 := Scalar.muli v2 c8_i32_391
  let v411 : BitVec 32 := Scalar.addi c0_i32_392 v410
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_393 : BitVec 32 := 4#32
  let v412 : BitVec 32 := Scalar.muli v40 c4_i32_393
  let v413 : BitVec 32 := Scalar.addi v411 v412
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_394 : BitVec 32 := 1#32
  let v414 : BitVec 32 := Scalar.muli v43 c1_i32_394
  let v415 : BitVec 32 := Scalar.addi v413 v414
  v415.toNat
def k0_off5 (d0 : Dev nD) (c1_i32_399 : BitVec 32) (c512_i32_413 : BitVec 32) : Fin 2 → Nat :=
  let c0_i32_417 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v424 : BitVec 32 := Scalar.addi v11 c1_i32_399
  let c8_i32_400 : BitVec 32 := 8#32
  let c0_i32_401 : BitVec 32 := 0#32
  let v425 : BitVec 1 := Scalar.cmpi .eq c8_i32_400 c0_i32_401
  let c1_i32_402 : BitVec 32 := 1#32
  let v426 : BitVec 32 := Scalar.select v425 c1_i32_402 c8_i32_400
  let v427 : BitVec 32 := Scalar.remsi v424 v426
  let c0_i32_404 : BitVec 32 := 0#32
  let v429 : BitVec 1 := Scalar.cmpi .slt v427 c0_i32_404
  let c0_i32_405 : BitVec 32 := 0#32
  let v430 : BitVec 1 := Scalar.cmpi .slt v426 c0_i32_405
  let v431 : BitVec 1 := Scalar.xori v429 v430
  let c0_i32_403 : BitVec 32 := 0#32
  let v428 : BitVec 1 := Scalar.cmpi .ne v427 c0_i32_403
  let v432 : BitVec 1 := Scalar.andi v431 v428
  let v433 : BitVec 32 := Scalar.addi v427 v426
  let v434 : BitVec 32 := Scalar.select v432 v433 v427
  let c1024_i32_412 : BitVec 32 := 1024#32
  let v440 : BitVec 32 := Scalar.muli v434 c1024_i32_412
  let v441 : BitVec 32 := Scalar.addi v440 c512_i32_413
  ![0, v441.toNat]
def k0_off5_at (r : Fin 14) : BitVec 32 × BitVec 32 :=
  if r.val < 7 then
    if r.val < 3 then
      if r.val < 1 then
        (1#32, 512#32)
      else
        if r.val < 2 then
          (1#32, 768#32)
        else
          (2#32, 512#32)
    else
      if r.val < 5 then
        if r.val < 4 then
          (2#32, 768#32)
        else
          (3#32, 512#32)
      else
        if r.val < 6 then
          (3#32, 768#32)
        else
          (4#32, 512#32)
  else
    if r.val < 10 then
      if r.val < 8 then
        (4#32, 768#32)
      else
        if r.val < 9 then
          (5#32, 512#32)
        else
          (5#32, 768#32)
    else
      if r.val < 12 then
        if r.val < 11 then
          (6#32, 512#32)
        else
          (6#32, 768#32)
      else
        if r.val < 13 then
          (1#32, 0#32)
        else
          (1#32, 256#32)
def k0_dev14 (d0 : Dev nD) : Nat :=
  let c0_i32_445 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_444 : BitVec 32 := 8#32
  let v459 : BitVec 32 := Scalar.muli v2 c8_i32_444
  let v460 : BitVec 32 := Scalar.addi c0_i32_445 v459
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_446 : BitVec 32 := 4#32
  let v461 : BitVec 32 := Scalar.muli v24 c4_i32_446
  let v462 : BitVec 32 := Scalar.addi v460 v461
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_447 : BitVec 32 := 1#32
  let v463 : BitVec 32 := Scalar.muli v27 c1_i32_447
  let v464 : BitVec 32 := Scalar.addi v462 v463
  v464.toNat
def k0_dev15 (d0 : Dev nD) : Nat :=
  let c0_i32_498 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_497 : BitVec 32 := 8#32
  let v508 : BitVec 32 := Scalar.muli v2 c8_i32_497
  let v509 : BitVec 32 := Scalar.addi c0_i32_498 v508
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_499 : BitVec 32 := 4#32
  let v510 : BitVec 32 := Scalar.muli v40 c4_i32_499
  let v511 : BitVec 32 := Scalar.addi v509 v510
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_500 : BitVec 32 := 1#32
  let v512 : BitVec 32 := Scalar.muli v43 c1_i32_500
  let v513 : BitVec 32 := Scalar.addi v511 v512
  v513.toNat
def k0_dev16 (d0 : Dev nD) : Nat :=
  let c0_i32_551 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_550 : BitVec 32 := 8#32
  let v557 : BitVec 32 := Scalar.muli v2 c8_i32_550
  let v558 : BitVec 32 := Scalar.addi c0_i32_551 v557
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_552 : BitVec 32 := 4#32
  let v559 : BitVec 32 := Scalar.muli v24 c4_i32_552
  let v560 : BitVec 32 := Scalar.addi v558 v559
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_553 : BitVec 32 := 1#32
  let v561 : BitVec 32 := Scalar.muli v27 c1_i32_553
  let v562 : BitVec 32 := Scalar.addi v560 v561
  v562.toNat
def k0_dev17 (d0 : Dev nD) : Nat :=
  let c0_i32_604 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_603 : BitVec 32 := 8#32
  let v606 : BitVec 32 := Scalar.muli v2 c8_i32_603
  let v607 : BitVec 32 := Scalar.addi c0_i32_604 v606
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_605 : BitVec 32 := 4#32
  let v608 : BitVec 32 := Scalar.muli v40 c4_i32_605
  let v609 : BitVec 32 := Scalar.addi v607 v608
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_606 : BitVec 32 := 1#32
  let v610 : BitVec 32 := Scalar.muli v43 c1_i32_606
  let v611 : BitVec 32 := Scalar.addi v609 v610
  v611.toNat
def k0_dev18 (d0 : Dev nD) : Nat :=
  let c0_i32_657 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_656 : BitVec 32 := 8#32
  let v655 : BitVec 32 := Scalar.muli v2 c8_i32_656
  let v656 : BitVec 32 := Scalar.addi c0_i32_657 v655
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_658 : BitVec 32 := 4#32
  let v657 : BitVec 32 := Scalar.muli v24 c4_i32_658
  let v658 : BitVec 32 := Scalar.addi v656 v657
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_659 : BitVec 32 := 1#32
  let v659 : BitVec 32 := Scalar.muli v27 c1_i32_659
  let v660 : BitVec 32 := Scalar.addi v658 v659
  v660.toNat
def k0_dev19 (d0 : Dev nD) : Nat :=
  let c0_i32_710 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_709 : BitVec 32 := 8#32
  let v704 : BitVec 32 := Scalar.muli v2 c8_i32_709
  let v705 : BitVec 32 := Scalar.addi c0_i32_710 v704
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_711 : BitVec 32 := 4#32
  let v706 : BitVec 32 := Scalar.muli v40 c4_i32_711
  let v707 : BitVec 32 := Scalar.addi v705 v706
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_712 : BitVec 32 := 1#32
  let v708 : BitVec 32 := Scalar.muli v43 c1_i32_712
  let v709 : BitVec 32 := Scalar.addi v707 v708
  v709.toNat
def k0_dev20 (d0 : Dev nD) : Nat :=
  let c0_i32_763 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_762 : BitVec 32 := 8#32
  let v753 : BitVec 32 := Scalar.muli v2 c8_i32_762
  let v754 : BitVec 32 := Scalar.addi c0_i32_763 v753
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_764 : BitVec 32 := 4#32
  let v755 : BitVec 32 := Scalar.muli v24 c4_i32_764
  let v756 : BitVec 32 := Scalar.addi v754 v755
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_765 : BitVec 32 := 1#32
  let v757 : BitVec 32 := Scalar.muli v27 c1_i32_765
  let v758 : BitVec 32 := Scalar.addi v756 v757
  v758.toNat
def k0_dev21 (d0 : Dev nD) : Nat :=
  let c0_i32_816 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_815 : BitVec 32 := 8#32
  let v802 : BitVec 32 := Scalar.muli v2 c8_i32_815
  let v803 : BitVec 32 := Scalar.addi c0_i32_816 v802
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_817 : BitVec 32 := 4#32
  let v804 : BitVec 32 := Scalar.muli v40 c4_i32_817
  let v805 : BitVec 32 := Scalar.addi v803 v804
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_818 : BitVec 32 := 1#32
  let v806 : BitVec 32 := Scalar.muli v43 c1_i32_818
  let v807 : BitVec 32 := Scalar.addi v805 v806
  v807.toNat
def k0_dev22 (d0 : Dev nD) : Nat :=
  let c0_i32_869 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_868 : BitVec 32 := 8#32
  let v851 : BitVec 32 := Scalar.muli v2 c8_i32_868
  let v852 : BitVec 32 := Scalar.addi c0_i32_869 v851
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_870 : BitVec 32 := 4#32
  let v853 : BitVec 32 := Scalar.muli v24 c4_i32_870
  let v854 : BitVec 32 := Scalar.addi v852 v853
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_871 : BitVec 32 := 1#32
  let v855 : BitVec 32 := Scalar.muli v27 c1_i32_871
  let v856 : BitVec 32 := Scalar.addi v854 v855
  v856.toNat
def k0_dev23 (d0 : Dev nD) : Nat :=
  let c0_i32_922 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_921 : BitVec 32 := 8#32
  let v900 : BitVec 32 := Scalar.muli v2 c8_i32_921
  let v901 : BitVec 32 := Scalar.addi c0_i32_922 v900
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_923 : BitVec 32 := 4#32
  let v902 : BitVec 32 := Scalar.muli v40 c4_i32_923
  let v903 : BitVec 32 := Scalar.addi v901 v902
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_924 : BitVec 32 := 1#32
  let v904 : BitVec 32 := Scalar.muli v43 c1_i32_924
  let v905 : BitVec 32 := Scalar.addi v903 v904
  v905.toNat
def k0_dev24 (d0 : Dev nD) : Nat :=
  let c0_i32_974 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_973 : BitVec 32 := 8#32
  let v949 : BitVec 32 := Scalar.muli v2 c8_i32_973
  let v950 : BitVec 32 := Scalar.addi c0_i32_974 v949
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_975 : BitVec 32 := 4#32
  let v951 : BitVec 32 := Scalar.muli v24 c4_i32_975
  let v952 : BitVec 32 := Scalar.addi v950 v951
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_976 : BitVec 32 := 1#32
  let v953 : BitVec 32 := Scalar.muli v27 c1_i32_976
  let v954 : BitVec 32 := Scalar.addi v952 v953
  v954.toNat
def k0_dev25 (d0 : Dev nD) : Nat :=
  let c0_i32_1027 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1026 : BitVec 32 := 8#32
  let v998 : BitVec 32 := Scalar.muli v2 c8_i32_1026
  let v999 : BitVec 32 := Scalar.addi c0_i32_1027 v998
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_1028 : BitVec 32 := 4#32
  let v1000 : BitVec 32 := Scalar.muli v40 c4_i32_1028
  let v1001 : BitVec 32 := Scalar.addi v999 v1000
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1029 : BitVec 32 := 1#32
  let v1002 : BitVec 32 := Scalar.muli v43 c1_i32_1029
  let v1003 : BitVec 32 := Scalar.addi v1001 v1002
  v1003.toNat
def k0_dev26 (d0 : Dev nD) : Nat :=
  let c0_i32_1080 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1079 : BitVec 32 := 8#32
  let v1047 : BitVec 32 := Scalar.muli v2 c8_i32_1079
  let v1048 : BitVec 32 := Scalar.addi c0_i32_1080 v1047
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_1081 : BitVec 32 := 4#32
  let v1049 : BitVec 32 := Scalar.muli v24 c4_i32_1081
  let v1050 : BitVec 32 := Scalar.addi v1048 v1049
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1082 : BitVec 32 := 1#32
  let v1051 : BitVec 32 := Scalar.muli v27 c1_i32_1082
  let v1052 : BitVec 32 := Scalar.addi v1050 v1051
  v1052.toNat
def k0_dev27 (d0 : Dev nD) : Nat :=
  let c0_i32_1133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1132 : BitVec 32 := 8#32
  let v1096 : BitVec 32 := Scalar.muli v2 c8_i32_1132
  let v1097 : BitVec 32 := Scalar.addi c0_i32_1133 v1096
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_1134 : BitVec 32 := 4#32
  let v1098 : BitVec 32 := Scalar.muli v40 c4_i32_1134
  let v1099 : BitVec 32 := Scalar.addi v1097 v1098
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1135 : BitVec 32 := 1#32
  let v1100 : BitVec 32 := Scalar.muli v43 c1_i32_1135
  let v1101 : BitVec 32 := Scalar.addi v1099 v1100
  v1101.toNat
def k0_dev28 (d0 : Dev nD) : Nat :=
  let c0_i32_1185 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1184 : BitVec 32 := 8#32
  let v1145 : BitVec 32 := Scalar.muli v2 c8_i32_1184
  let v1146 : BitVec 32 := Scalar.addi c0_i32_1185 v1145
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_1186 : BitVec 32 := 4#32
  let v1147 : BitVec 32 := Scalar.muli v24 c4_i32_1186
  let v1148 : BitVec 32 := Scalar.addi v1146 v1147
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1187 : BitVec 32 := 1#32
  let v1149 : BitVec 32 := Scalar.muli v27 c1_i32_1187
  let v1150 : BitVec 32 := Scalar.addi v1148 v1149
  v1150.toNat
def k0_dev29 (d0 : Dev nD) : Nat :=
  let c0_i32_1238 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1237 : BitVec 32 := 8#32
  let v1194 : BitVec 32 := Scalar.muli v2 c8_i32_1237
  let v1195 : BitVec 32 := Scalar.addi c0_i32_1238 v1194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_1239 : BitVec 32 := 4#32
  let v1196 : BitVec 32 := Scalar.muli v40 c4_i32_1239
  let v1197 : BitVec 32 := Scalar.addi v1195 v1196
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1240 : BitVec 32 := 1#32
  let v1198 : BitVec 32 := Scalar.muli v43 c1_i32_1240
  let v1199 : BitVec 32 := Scalar.addi v1197 v1198
  v1199.toNat
def k0_dev30 (d0 : Dev nD) : Nat :=
  let c0_i32_1291 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1290 : BitVec 32 := 8#32
  let v1243 : BitVec 32 := Scalar.muli v2 c8_i32_1290
  let v1244 : BitVec 32 := Scalar.addi c0_i32_1291 v1243
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_1292 : BitVec 32 := 4#32
  let v1245 : BitVec 32 := Scalar.muli v24 c4_i32_1292
  let v1246 : BitVec 32 := Scalar.addi v1244 v1245
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1293 : BitVec 32 := 1#32
  let v1247 : BitVec 32 := Scalar.muli v27 c1_i32_1293
  let v1248 : BitVec 32 := Scalar.addi v1246 v1247
  v1248.toNat
def k0_dev31 (d0 : Dev nD) : Nat :=
  let c0_i32_1344 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1343 : BitVec 32 := 8#32
  let v1292 : BitVec 32 := Scalar.muli v2 c8_i32_1343
  let v1293 : BitVec 32 := Scalar.addi c0_i32_1344 v1292
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_1345 : BitVec 32 := 4#32
  let v1294 : BitVec 32 := Scalar.muli v40 c4_i32_1345
  let v1295 : BitVec 32 := Scalar.addi v1293 v1294
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1346 : BitVec 32 := 1#32
  let v1296 : BitVec 32 := Scalar.muli v43 c1_i32_1346
  let v1297 : BitVec 32 := Scalar.addi v1295 v1296
  v1297.toNat
def k0_dev32 (d0 : Dev nD) : Nat :=
  let c0_i32_1397 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1396 : BitVec 32 := 8#32
  let v1341 : BitVec 32 := Scalar.muli v2 c8_i32_1396
  let v1342 : BitVec 32 := Scalar.addi c0_i32_1397 v1341
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_1398 : BitVec 32 := 4#32
  let v1343 : BitVec 32 := Scalar.muli v24 c4_i32_1398
  let v1344 : BitVec 32 := Scalar.addi v1342 v1343
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1399 : BitVec 32 := 1#32
  let v1345 : BitVec 32 := Scalar.muli v27 c1_i32_1399
  let v1346 : BitVec 32 := Scalar.addi v1344 v1345
  v1346.toNat
def k0_dev33 (d0 : Dev nD) : Nat :=
  let c0_i32_1450 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1449 : BitVec 32 := 8#32
  let v1390 : BitVec 32 := Scalar.muli v2 c8_i32_1449
  let v1391 : BitVec 32 := Scalar.addi c0_i32_1450 v1390
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_1451 : BitVec 32 := 4#32
  let v1392 : BitVec 32 := Scalar.muli v40 c4_i32_1451
  let v1393 : BitVec 32 := Scalar.addi v1391 v1392
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1452 : BitVec 32 := 1#32
  let v1394 : BitVec 32 := Scalar.muli v43 c1_i32_1452
  let v1395 : BitVec 32 := Scalar.addi v1393 v1394
  v1395.toNat
def k0_dev34 (d0 : Dev nD) : Nat :=
  let c0_i32_1503 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1502 : BitVec 32 := 8#32
  let v1439 : BitVec 32 := Scalar.muli v2 c8_i32_1502
  let v1440 : BitVec 32 := Scalar.addi c0_i32_1503 v1439
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32_3 : BitVec 32 := 8#32
  let c0_i32_4 : BitVec 32 := 0#32
  let v13 : BitVec 1 := Scalar.cmpi .eq c8_i32_3 c0_i32_4
  let c1_i32_5 : BitVec 32 := 1#32
  let v14 : BitVec 32 := Scalar.select v13 c1_i32_5 c8_i32_3
  let v15 : BitVec 32 := Scalar.remsi v12 v14
  let c0_i32_7 : BitVec 32 := 0#32
  let v17 : BitVec 1 := Scalar.cmpi .slt v15 c0_i32_7
  let c0_i32_8 : BitVec 32 := 0#32
  let v18 : BitVec 1 := Scalar.cmpi .slt v14 c0_i32_8
  let v19 : BitVec 1 := Scalar.xori v17 v18
  let c0_i32_6 : BitVec 32 := 0#32
  let v16 : BitVec 1 := Scalar.cmpi .ne v15 c0_i32_6
  let v20 : BitVec 1 := Scalar.andi v19 v16
  let v21 : BitVec 32 := Scalar.addi v15 v14
  let v22 : BitVec 32 := Scalar.select v20 v21 v15
  let c4_i32_9 : BitVec 32 := 4#32
  let v23 : BitVec 1 := Scalar.cmpi .sge v22 c4_i32_9
  let c1_i32_10 : BitVec 32 := 1#32
  let c0_i32_11 : BitVec 32 := 0#32
  let v24 : BitVec 32 := Scalar.select v23 c1_i32_10 c0_i32_11
  let c4_i32_1504 : BitVec 32 := 4#32
  let v1441 : BitVec 32 := Scalar.muli v24 c4_i32_1504
  let v1442 : BitVec 32 := Scalar.addi v1440 v1441
  let c4_i32_12 : BitVec 32 := 4#32
  let v25 : BitVec 1 := Scalar.cmpi .slt v22 c4_i32_12
  let c7_i32_13 : BitVec 32 := 7#32
  let v26 : BitVec 32 := Scalar.subi c7_i32_13 v22
  let v27 : BitVec 32 := Scalar.select v25 v22 v26
  let c1_i32_1505 : BitVec 32 := 1#32
  let v1443 : BitVec 32 := Scalar.muli v27 c1_i32_1505
  let v1444 : BitVec 32 := Scalar.addi v1442 v1443
  v1444.toNat
def k0_dev35 (d0 : Dev nD) : Nat :=
  let c0_i32_1556 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1555 : BitVec 32 := 8#32
  let v1488 : BitVec 32 := Scalar.muli v2 c8_i32_1555
  let v1489 : BitVec 32 := Scalar.addi c0_i32_1556 v1488
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v9 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_14 : BitVec 32 := 1#32
  let v28 : BitVec 32 := Scalar.subi v11 c1_i32_14
  let c8_i32_15 : BitVec 32 := 8#32
  let c0_i32_16 : BitVec 32 := 0#32
  let v29 : BitVec 1 := Scalar.cmpi .eq c8_i32_15 c0_i32_16
  let c1_i32_17 : BitVec 32 := 1#32
  let v30 : BitVec 32 := Scalar.select v29 c1_i32_17 c8_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c4_i32_21 : BitVec 32 := 4#32
  let v39 : BitVec 1 := Scalar.cmpi .sge v38 c4_i32_21
  let c1_i32_22 : BitVec 32 := 1#32
  let c0_i32_23 : BitVec 32 := 0#32
  let v40 : BitVec 32 := Scalar.select v39 c1_i32_22 c0_i32_23
  let c4_i32_1557 : BitVec 32 := 4#32
  let v1490 : BitVec 32 := Scalar.muli v40 c4_i32_1557
  let v1491 : BitVec 32 := Scalar.addi v1489 v1490
  let c4_i32_24 : BitVec 32 := 4#32
  let v41 : BitVec 1 := Scalar.cmpi .slt v38 c4_i32_24
  let c7_i32_25 : BitVec 32 := 7#32
  let v42 : BitVec 32 := Scalar.subi c7_i32_25 v38
  let v43 : BitVec 32 := Scalar.select v41 v38 v42
  let c1_i32_1558 : BitVec 32 := 1#32
  let v1492 : BitVec 32 := Scalar.muli v43 c1_i32_1558
  let v1493 : BitVec 32 := Scalar.addi v1491 v1492
  v1493.toNat
abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩
abbrev S4096x8192 : Shape := ⟨2, ![4096, 8192]⟩
abbrev S2048x4096 : Shape := ⟨2, ![2048, 4096]⟩
abbrev S2048x8192 : Shape := ⟨2, ![2048, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S2048x4096, .bf16⟩
  | .hbm, ⟨3, _⟩ => ⟨S2048x8192, .f32⟩
  | .hbm, ⟨4, _⟩ => ⟨S2048x8192, .bf16⟩
  | .hbm, ⟨5, _⟩ => ⟨S2048x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.K.Eq.lean ====
/- The printed body is the rows. -/
module

public import proofs.«01_k».proof.Proof.K.Prog

@[expose] public section

noncomputable section

namespace Cert.Kernel.Wg

open Idealize.ShloMosaic Idealize.SL.Sem Cert.Kernel.Gen

variable {F : FTy → Type} [FloatOps F]

set_option maxRecDepth 65536 in
set_option maxHeartbeats 0 in
theorem body_eq (t : Fin cfg0.N) :
    bodyAt0 (F := F) t = body (win0_0.stage (cfg0.slots t 0)) (win0_1.stage (cfg0.slots t 1)) := by
  unfold bodyAt0 body
  rfl

end Cert.Kernel.Wg

end
-- ==== Proof.KI.Prog.lean ====
/- The kernel's body once more, as rows: what each device does for one lane at one hop, and the order
   the rows come in. A LANE is a quarter of a device's own block of columns, travelling round the ring
   one way: lanes 0 and 2 to the right, lanes 1 and 3 to the left. -/
module

public import proofs.«01_k».proof.Proof.Gen.KernelIdeal.Skeleton
public import proofs.«01_k».proof.Proof.Gen.KernelIdeal.Points

@[expose] public section

noncomputable section

namespace Cert.KernelIdeal.Wg

open Idealize.ShloMosaic Idealize.SL.Sem Cert.KernelIdeal.Gen

variable {F : FTy → Type} [FloatOps F]

/-! ## Buffers, tiles and semaphores -/

abbrev oM : Memref sig .tc .hbm S1024x8192 .bf16 := Memref.whole main_v17
abbrev sM : Memref sig .tc .vmem S4x1024x256 .bf16 := Memref.whole cc0_scratch0
abbrev rM : Memref sig .tc .vmem S4x1024x256 .bf16 := Memref.whole cc0_scratch1
/-- The buffer a lane's tiles travel through. -/
def cM : Fin 4 → Memref sig .tc .vmem S2x8x1024x256 .bf16
  | 0 => Memref.whole cc0_scratch2
  | 1 => Memref.whole cc0_scratch3
  | 2 => Memref.whole cc0_scratch2
  | 3 => Memref.whole cc0_scratch3
theorem cM_whole : ∀ l, (cM l).IsWhole
  | 0 => Memref.isWhole_whole _
  | 1 => Memref.isWhole_whole _
  | 2 => Memref.isWhole_whole _
  | 3 => Memref.isWhole_whole _
/-- The half of that buffer the lane uses. -/
def row : Fin 4 → Fin 2
  | 0 => 0
  | 1 => 0
  | 2 => 1
  | 3 => 1

theorem inbP (l : Fin 4) : ∀ a, (![l.val, 0, 0] : Fin 3 → ℕ) a + S1x1024x256.size a ≤ S4x1024x256.size a := by
  revert l; decide
theorem inbC (r : Fin 2) (s : ℕ) : ∀ a, (![r.val, s % 8, 0, 0] : Fin 4 → ℕ) a + S1x1x1024x256.size a ≤ S2x8x1024x256.size a := by
  have hr := r.isLt
  have hs : s % 8 < 8 := Nat.mod_lt _ (by decide)
  intro a
  match a with
  | 0 => show r.val + 1 ≤ 2; omega
  | 1 => show s % 8 + 1 ≤ 8; omega
  | 2 => exact Nat.le_refl _
  | 3 => exact Nat.le_refl _
theorem inb4 (l : Fin 4) : ∀ a, (![l.val] : Fin 1 → ℕ) a + S1.size a ≤ S4.size a := by
  revert l; decide
theorem inb28 (r : Fin 2) (s : ℕ) : ∀ a, (![r.val, s % 8] : Fin 2 → ℕ) a + S1x1.size a ≤ S2x8.size a := by
  have hr := r.isLt
  have hs : s % 8 < 8 := Nat.mod_lt _ (by decide)
  intro a
  match a with
  | 0 => show r.val + 1 ≤ 2; omega
  | 1 => show s % 8 + 1 ≤ 8; omega

abbrev rectP (l : Fin 4) : Rect S4x1024x256 := Rect.unit (s := S4x1024x256) ![l.val, 0, 0] S1x1024x256.size (inbP l)
abbrev rectC (l : Fin 4) (s : ℕ) : Rect S2x8x1024x256 :=
  Rect.unit (s := S2x8x1024x256) ![(row l).val, s % 8, 0, 0] S1x1x1024x256.size (inbC (row l) s)

theorem wordsP (l : Fin 4) : (rectP l).WholeWords (EltTy.packing .bf16) := .inr ⟨by decide, rfl, rfl, rfl⟩
theorem wordsC (l : Fin 4) (s : ℕ) : (rectC l s).WholeWords (EltTy.packing .bf16) := .inr ⟨by decide, rfl, rfl, rfl⟩
theorem packedP : ∀ l : Fin 4, (rectP l).PackedRows (EltTy.packing .bf16)
  | 0 => packedbf16_S4x1024x256_S1x1024x256_0_0_0
  | 1 => packedbf16_S4x1024x256_S1x1024x256_1_0_0
  | 2 => packedbf16_S4x1024x256_S1x1024x256_2_0_0
  | 3 => packedbf16_S4x1024x256_S1x1024x256_3_0_0
theorem packedC : ∀ l : Fin 4, (rectC l 0).PackedRows (EltTy.packing .bf16)
  | 0 => packedbf16_S2x8x1024x256_S1x1x1024x256_0_0_0_0
  | 1 => packedbf16_S2x8x1024x256_S1x1x1024x256_0_0_0_0
  | 2 => packedbf16_S2x8x1024x256_S1x1x1024x256_1_0_0_0
  | 3 => packedbf16_S2x8x1024x256_S1x1x1024x256_1_0_0_0

/-- The tile a device sends its partner for lane `l`, -/
def sT (l : Fin 4) : Memref sig .tc .vmem S1024x256 .bf16 :=
  (sM.slice (rectP l) (fun _ => rfl)).squeeze S1024x256 squeezes_S1x1024x256_S1024x256
/-- the tile its partner's lands in, -/
def rT (l : Fin 4) : Memref sig .tc .vmem S1024x256 .bf16 :=
  (rM.slice (rectP l) (fun _ => rfl)).squeeze S1024x256 squeezes_S1x1024x256_S1024x256
/-- and slot `s` of lane `l`. -/
def cT (l : Fin 4) (s : ℕ) : Memref sig .tc .vmem S1024x256 .bf16 :=
  ((cM l).slice (rectC l s) (fun _ => rfl)).squeeze S1024x256 squeezes_S1x1x1024x256_S1024x256

theorem sT_words (l : Fin 4) : (sT l).view.WordExact := ((Memref.isWhole_whole cc0_scratch0).wordExact_slice rfl (rectP l) (wordsP l)).reshape _ _
theorem rT_words (l : Fin 4) : (rT l).view.WordExact := ((Memref.isWhole_whole cc0_scratch1).wordExact_slice rfl (rectP l) (wordsP l)).reshape _ _
theorem cT_words (l : Fin 4) (s : ℕ) : (cT l s).view.WordExact := ((cM_whole l).wordExact_slice rfl (rectC l s) (wordsC l s)).reshape _ _

abbrev sem4 (a : DmaSems sig S4) (l : Fin 4) : DmaSem sig :=
  ((a.slice (Rect.unit (s := S4) ![l.val] S1.size (inb4 l))).squeeze S_ squeezes_S1_S_).sem
abbrev sem28 (a : DmaSems sig S2x8) (l : Fin 4) (s : ℕ) : DmaSem sig :=
  ((a.slice (Rect.unit (s := S2x8) ![(row l).val, s % 8] S1x1.size (inb28 (row l) s))).squeeze S_ squeezes_S1x1_S_).sem

def outS (l : Fin 4) : DmaSem sig := sem4 cc0_scratch4 l
def xsS (l : Fin 4) : DmaSem sig := sem4 cc0_scratch5 l
def xrS (l : Fin 4) : DmaSem sig := sem4 cc0_scratch6 l
def sndA : Fin 4 → DmaSems sig S2x8
  | 0 => cc0_scratch7
  | 1 => cc0_scratch9
  | 2 => cc0_scratch7
  | 3 => cc0_scratch9
def rcvA : Fin 4 → DmaSems sig S2x8
  | 0 => cc0_scratch8
  | 1 => cc0_scratch10
  | 2 => cc0_scratch8
  | 3 => cc0_scratch10
def sndS (l : Fin 4) (s : ℕ) : DmaSem sig := sem28 (sndA l) l s
def rcvS (l : Fin 4) (s : ℕ) : DmaSem sig := sem28 (rcvA l) l s

/-! ## Targets and columns, as printed -/

/-- Where lane `l` sends its slot `s`. -/
def tgt (d : Dev nD) : Fin 4 → ℕ → Dev nD
  | 0, 0 => ⟨k0_dev8 d, k0_dev8_lt d⟩
  | 1, 0 => ⟨k0_dev9 d, k0_dev9_lt d⟩
  | 2, 0 => ⟨k0_dev10 d, k0_dev10_lt d⟩
  | 3, 0 => ⟨k0_dev11 d, k0_dev11_lt d⟩
  | 0, 1 => ⟨k0_dev12 d, k0_dev12_lt d⟩
  | 1, 1 => ⟨k0_dev13 d, k0_dev13_lt d⟩
  | 2, 1 => ⟨k0_dev14 d, k0_dev14_lt d⟩
  | 3, 1 => ⟨k0_dev15 d, k0_dev15_lt d⟩
  | 0, 2 => ⟨k0_dev16 d, k0_dev16_lt d⟩
  | 1, 2 => ⟨k0_dev17 d, k0_dev17_lt d⟩
  | 2, 2 => ⟨k0_dev18 d, k0_dev18_lt d⟩
  | 3, 2 => ⟨k0_dev19 d, k0_dev19_lt d⟩
  | 0, 3 => ⟨k0_dev20 d, k0_dev20_lt d⟩
  | 1, 3 => ⟨k0_dev21 d, k0_dev21_lt d⟩
  | 2, 3 => ⟨k0_dev22 d, k0_dev22_lt d⟩
  | 3, 3 => ⟨k0_dev23 d, k0_dev23_lt d⟩
  | 0, 4 => ⟨k0_dev24 d, k0_dev24_lt d⟩
  | 1, 4 => ⟨k0_dev25 d, k0_dev25_lt d⟩
  | 2, 4 => ⟨k0_dev26 d, k0_dev26_lt d⟩
  | 3, 4 => ⟨k0_dev27 d, k0_dev27_lt d⟩
  | 0, 5 => ⟨k0_dev28 d, k0_dev28_lt d⟩
  | 1, 5 => ⟨k0_dev29 d, k0_dev29_lt d⟩
  | 2, 5 => ⟨k0_dev30 d, k0_dev30_lt d⟩
  | 3, 5 => ⟨k0_dev31 d, k0_dev31_lt d⟩
  | 0, 6 => ⟨k0_dev32 d, k0_dev32_lt d⟩
  | 1, 6 => ⟨k0_dev33 d, k0_dev33_lt d⟩
  | 2, 6 => ⟨k0_dev34 d, k0_dev34_lt d⟩
  | 3, 6 => ⟨k0_dev35 d, k0_dev35_lt d⟩
  | _, _ => d
def ptn (d : Dev nD) : Fin 4 → Dev nD
  | 0 => ⟨k0_dev4 d, k0_dev4_lt d⟩
  | 1 => ⟨k0_dev5 d, k0_dev5_lt d⟩
  | 2 => ⟨k0_dev6 d, k0_dev6_lt d⟩
  | 3 => ⟨k0_dev7 d, k0_dev7_lt d⟩
/-- The columns lane `l`'s slot `s` is copied out to. -/
def ofs (d : Dev nD) : Fin 4 → ℕ → Fin 2 → ℕ
  | 0, 0 => k0_off3 d 0#32
  | 1, 0 => k0_off3 d 512#32
  | 2, 0 => k0_off3 d 256#32
  | 3, 0 => k0_off3 d 768#32
  | 0, 1 => k0_off4 d 1#32 0#32
  | 1, 1 => k0_off5 d 1#32 512#32
  | 2, 1 => k0_off4 d 1#32 256#32
  | 3, 1 => k0_off5 d 1#32 768#32
  | 0, 2 => k0_off4 d 2#32 0#32
  | 1, 2 => k0_off5 d 2#32 512#32
  | 2, 2 => k0_off4 d 2#32 256#32
  | 3, 2 => k0_off5 d 2#32 768#32
  | 0, 3 => k0_off4 d 3#32 0#32
  | 1, 3 => k0_off5 d 3#32 512#32
  | 2, 3 => k0_off4 d 3#32 256#32
  | 3, 3 => k0_off5 d 3#32 768#32
  | 0, 4 => k0_off4 d 4#32 0#32
  | 1, 4 => k0_off5 d 4#32 512#32
  | 2, 4 => k0_off4 d 4#32 256#32
  | 3, 4 => k0_off5 d 4#32 768#32
  | 0, 5 => k0_off4 d 5#32 0#32
  | 1, 5 => k0_off5 d 5#32 512#32
  | 2, 5 => k0_off4 d 5#32 256#32
  | 3, 5 => k0_off5 d 5#32 768#32
  | 0, 6 => k0_off4 d 6#32 0#32
  | 1, 6 => k0_off5 d 6#32 512#32
  | 2, 6 => k0_off4 d 6#32 256#32
  | 3, 6 => k0_off5 d 6#32 768#32
  | 0, 7 => k0_off5 d 1#32 0#32
  | 1, 7 => k0_off4 d 1#32 512#32
  | 2, 7 => k0_off5 d 1#32 256#32
  | 3, 7 => k0_off4 d 1#32 768#32
  | _, _ => ![0, 0]
theorem ofs_inb (d : Dev nD) : ∀ (l : Fin 4) (s : ℕ) (a : Fin 2), ofs d l s a + S1024x256.size a ≤ S1024x8192.size a
  | 0, 0 => k0_off3_inb d 0
  | 1, 0 => k0_off3_inb d 2
  | 2, 0 => k0_off3_inb d 1
  | 3, 0 => k0_off3_inb d 3
  | 0, 1 => k0_off4_inb d 0
  | 1, 1 => k0_off5_inb d 0
  | 2, 1 => k0_off4_inb d 1
  | 3, 1 => k0_off5_inb d 1
  | 0, 2 => k0_off4_inb d 2
  | 1, 2 => k0_off5_inb d 2
  | 2, 2 => k0_off4_inb d 3
  | 3, 2 => k0_off5_inb d 3
  | 0, 3 => k0_off4_inb d 4
  | 1, 3 => k0_off5_inb d 4
  | 2, 3 => k0_off4_inb d 5
  | 3, 3 => k0_off5_inb d 5
  | 0, 4 => k0_off4_inb d 6
  | 1, 4 => k0_off5_inb d 6
  | 2, 4 => k0_off4_inb d 7
  | 3, 4 => k0_off5_inb d 7
  | 0, 5 => k0_off4_inb d 8
  | 1, 5 => k0_off5_inb d 8
  | 2, 5 => k0_off4_inb d 9
  | 3, 5 => k0_off5_inb d 9
  | 0, 6 => k0_off4_inb d 10
  | 1, 6 => k0_off5_inb d 10
  | 2, 6 => k0_off4_inb d 11
  | 3, 6 => k0_off5_inb d 11
  | 0, 7 => k0_off5_inb d 12
  | 1, 7 => k0_off4_inb d 12
  | 2, 7 => k0_off5_inb d 13
  | 3, 7 => k0_off4_inb d 13
  | 0, _ + 8 => fun a => (by decide : ∀ a : Fin 2, (![0, 0] : Fin 2 → ℕ) a + S1024x256.size a ≤ S1024x8192.size a) a
  | 1, _ + 8 => fun a => (by decide : ∀ a : Fin 2, (![0, 0] : Fin 2 → ℕ) a + S1024x256.size a ≤ S1024x8192.size a) a
  | 2, _ + 8 => fun a => (by decide : ∀ a : Fin 2, (![0, 0] : Fin 2 → ℕ) a + S1024x256.size a ≤ S1024x8192.size a) a
  | 3, _ + 8 => fun a => (by decide : ∀ a : Fin 2, (![0, 0] : Fin 2 → ℕ) a + S1024x256.size a ≤ S1024x8192.size a) a
abbrev rectO (d : Dev nD) (l : Fin 4) (s : ℕ) : Rect S1024x8192 :=
  Rect.unit (s := S1024x8192) (ofs d l s) S1024x256.size (ofs_inb d l s)
theorem rectO_words (d : Dev nD) : ∀ (l : Fin 4) (s : ℕ), (rectO d l s).WholeWords (EltTy.packing .bf16)
  | 0, 0 => k0_off3_wordsbf16 d 0
  | 1, 0 => k0_off3_wordsbf16 d 2
  | 2, 0 => k0_off3_wordsbf16 d 1
  | 3, 0 => k0_off3_wordsbf16 d 3
  | 0, 1 => k0_off4_wordsbf16 d 0
  | 1, 1 => k0_off5_wordsbf16 d 0
  | 2, 1 => k0_off4_wordsbf16 d 1
  | 3, 1 => k0_off5_wordsbf16 d 1
  | 0, 2 => k0_off4_wordsbf16 d 2
  | 1, 2 => k0_off5_wordsbf16 d 2
  | 2, 2 => k0_off4_wordsbf16 d 3
  | 3, 2 => k0_off5_wordsbf16 d 3
  | 0, 3 => k0_off4_wordsbf16 d 4
  | 1, 3 => k0_off5_wordsbf16 d 4
  | 2, 3 => k0_off4_wordsbf16 d 5
  | 3, 3 => k0_off5_wordsbf16 d 5
  | 0, 4 => k0_off4_wordsbf16 d 6
  | 1, 4 => k0_off5_wordsbf16 d 6
  | 2, 4 => k0_off4_wordsbf16 d 7
  | 3, 4 => k0_off5_wordsbf16 d 7
  | 0, 5 => k0_off4_wordsbf16 d 8
  | 1, 5 => k0_off5_wordsbf16 d 8
  | 2, 5 => k0_off4_wordsbf16 d 9
  | 3, 5 => k0_off5_wordsbf16 d 9
  | 0, 6 => k0_off4_wordsbf16 d 10
  | 1, 6 => k0_off5_wordsbf16 d 10
  | 2, 6 => k0_off4_wordsbf16 d 11
  | 3, 6 => k0_off5_wordsbf16 d 11
  | 0, 7 => k0_off5_wordsbf16 d 12
  | 1, 7 => k0_off4_wordsbf16 d 12
  | 2, 7 => k0_off5_wordsbf16 d 13
  | 3, 7 => k0_off4_wordsbf16 d 13
  | 0, _ + 8 => .inr ⟨by decide, rfl, rfl, rfl⟩
  | 1, _ + 8 => .inr ⟨by decide, rfl, rfl, rfl⟩
  | 2, _ + 8 => .inr ⟨by decide, rfl, rfl, rfl⟩
  | 3, _ + 8 => .inr ⟨by decide, rfl, rfl, rfl⟩
/-- The tile of the result lane `l`'s slot `s` is copied out to. -/
def oT (d : Dev nD) (l : Fin 4) (s : ℕ) : Memref sig .tc .hbm S1024x256 .bf16 := oM.slice (rectO d l s) (fun _ => rfl)
theorem oT_words (d : Dev nD) : ∀ (l : Fin 4) (s : ℕ), (oT d l s).view.WordExact := fun l s =>
  (Memref.isWhole_whole main_v17).wordExact_slice rfl _ (rectO_words d l s)

/-! ## The rows -/

abbrev P := Prog (TpuEff nD τ sig (Elt F) Λ₀ .tc)

/-- Tell the partner and both neighbours this device is ready, and hear it from all three. -/
def handshake (d : Dev nD) : P (F := F) PUnit := do
  semSignalWord (⟨k0_dev1 d, k0_dev1_lt d⟩ : Dev nD) barrier0 1#32
  semSignalWord (⟨k0_dev2 d, k0_dev2_lt d⟩ : Dev nD) barrier0 1#32
  semSignalWord (⟨k0_dev3 d, k0_dev3_lt d⟩ : Dev nD) barrier0 1#32
  semWaitWord barrier0 3#32

/-- Place a tile to send to the partner. -/
def place (l : Fin 4) (v : FVec F S1x1024x256 .bf16) : P (F := F) PUnit := do
  let _ ← Prog.lift (.load sM (rectP l).toLoadRect (View.loadsAt_vmem h_S1x1024x256))
  Prog.lift (.store sM (rectP l) v Finset.univ
    (View.stores_vmem h_S1x1024x256 ((Memref.isWhole_whole cc0_scratch0).storeExact_slice rfl _ (packedP l)) (fun _ => rfl)) (.inl rfl))

/-- Send it. -/
def give (d : Dev nD) (l : Fin 4) : P (F := F) PUnit :=
  Prog.lift (.enqueueDma (sT l) (.remote (Dev.tc (ptn d l)) (rT l) (.dma (xsS l))) (.dma (xrS l)) (sT_words l) (rT_words l)
    ⟨⟨rfl, Or.inl rfl⟩, trivial⟩)

/-- Send slot `s` of lane `l` on to the next device's slot `s + 1`, -/
def pass (d : Dev nD) (l : Fin 4) (s : ℕ) : P (F := F) PUnit :=
  Prog.lift (.enqueueDma (cT l s) (.remote (Dev.tc (tgt d l s)) (cT l (s + 1)) (.dma (sndS l s))) (.dma (rcvS l (s + 1)))
    (cT_words l s) (cT_words l (s + 1)) ⟨⟨rfl, Or.inl rfl⟩, trivial⟩)
/-- and copy it out. -/
def copyOut (d : Dev nD) (l : Fin 4) (s : ℕ) : P (F := F) PUnit :=
  Prog.lift (.enqueueDma (cT l s) (.here (oT d l s)) (.dma (outS l)) (cT_words l s) (oT_words d l s) ⟨Or.inl rfl, trivial⟩)
def waitOut (d : Dev nD) (l : Fin 4) (s : ℕ) : P (F := F) PUnit :=
  Prog.lift (.waitDma2 (outS l) (cT l s) (oT d l s) (cT_words l s) (oT_words d l s))
/-- Wait for slot `s + 1` to arrive, -/
def waitRcv (l : Fin 4) (s : ℕ) : P (F := F) PUnit :=
  Prog.lift (.waitDma2 (rcvS l (s + 1)) (cT l s) (cT l (s + 1)) (cT_words l s) (cT_words l (s + 1)))
/-- or for slot `s` to have been sent on. -/
def waitSnd (l : Fin 4) (s : ℕ) : P (F := F) PUnit :=
  Prog.lift (.waitDma2 (sndS l s) (cT l (s + 1)) (cT l s) (cT_words l (s + 1)) (cT_words l s))

/-- Lane `l` meets the partner's tile: their sum is slot 0. -/
def meet (d : Dev nD) (l : Fin 4) (pay : Vec F S1x1024x256 .bf16 → FVec F S1x1x1024x256 .bf16) : P (F := F) PUnit := do
  Prog.lift (.waitDma2 (xsS l) (rT l) (sT l) (rT_words l) (sT_words l))
  Prog.lift (.waitDma2 (xrS l) (sT l) (rT l) (sT_words l) (rT_words l))
  let v ← Prog.lift (.load rM (rectP l).toLoadRect (View.loadsAt_vmem h_S1x1024x256))
  let _ ← Prog.lift (.load (cM l) (rectC l 0).toLoadRect (View.loadsAt_vmem h_S1x1x1024x256))
  Prog.lift (.store (cM l) (rectC l 0) (pay v) Finset.univ
    (View.stores_vmem h_S1x1x1024x256 ((cM_whole l).storeExact_slice rfl _ (packedC l)) (fun _ => rfl)) (.inl rfl))
  pass d l 0
  copyOut d l 0

/-- Lane `l` at hop `s + 1`. -/
def hop (d : Dev nD) (l : Fin 4) (s : ℕ) : P (F := F) PUnit := do
  waitRcv l s
  pass d l (s + 1)
  waitOut d l s
  copyOut d l (s + 1)
def hops (d : Dev nD) (s : ℕ) : P (F := F) PUnit := do
  hop d 0 s
  hop d 1 s
  hop d 2 s
  hop d 3 s

/-- Lane `l` at its last slot. -/
def last (d : Dev nD) (l : Fin 4) : P (F := F) PUnit := do
  waitRcv l 6
  waitOut d l 6
  copyOut d l 7

def drains (s : ℕ) : P (F := F) PUnit := do
  waitSnd 0 s
  waitSnd 1 s
  waitSnd 2 s
  waitSnd 3 s

def ring (d : Dev nD) : P (F := F) PUnit := do
  hops d 0
  hops d 1
  hops d 2
  hops d 3
  hops d 4
  hops d 5

def lasts (d : Dev nD) : P (F := F) PUnit := do
  last d 0
  last d 1
  last d 2
  last d 3

def drain (d : Dev nD) : P (F := F) PUnit := do
  drains 0
  drains 1
  drains 2
  drains 3
  drains 4
  drains 5
  drains 6
  waitOut d 0 7
  waitOut d 1 7
  waitOut d 2 7
  waitOut d 3 7

/-- The body as rows. -/
def body (A0 : Memref sig .tc .vmem S2048x2048 .bf16) (A1 : Memref sig .tc .vmem S2048x1024 .bf16) : P (F := F) PUnit := do
  let d ← Prog.lift .deviceId
  handshake d
  let y ← Prog.lift (.load A1 (Rect.unit (s := S2048x1024) ![0, 0] S2048x1024.size inb_S2048x1024_S2048x1024_0_0).toLoadRect (View.loadsAt_vmem h_S2048x1024))
  let x ← Prog.lift (.load A0 (Rect.unit (s := S2048x2048) (k0_off1 d) S2048x1024.size (k0_off1_inb d)).toLoadRect (View.loadsAt_vmem h_S2048x1024))
  place 0 (k0_pay3 y x)
  place 1 (k0_pay4 y x)
  place 2 (k0_pay5 y x)
  place 3 (k0_pay6 y x)
  give d 0
  give d 1
  give d 2
  give d 3
  let x' ← Prog.lift (.load A0 (Rect.unit (s := S2048x2048) (k0_off2 d) S2048x1024.size (k0_off2_inb d)).toLoadRect (View.loadsAt_vmem h_S2048x1024))
  meet d 0 (fun v => k0_pay8 (k0_pay7 (k0_pay1 y) x') v)
  meet d 1 (fun v => k0_pay9 (k0_pay7 (k0_pay1 y) x') v)
  meet d 2 (fun v => k0_pay10 (k0_pay7 (k0_pay1 y) x') v)
  meet d 3 (fun v => k0_pay12 (k0_pay11 (k0_pay7 (k0_pay1 y) x') v))
  ring d
  lasts d
  drain d

end Cert.KernelIdeal.Wg

end
-- ==== Proof.KI.Devs.lean ====
/- Where a device's messages go, and whose block a slot holds. The eight devices of one half of the mesh
   are a ring; a device's partner is the one at its place in the other half. -/
module

public import proofs.«01_k».proof.Proof.KI.Prog

@[expose] public section

noncomputable section

namespace Cert.KernelIdeal.Wg

open Idealize.ShloMosaic Idealize.SL.Sem Cert.KernelIdeal.Gen

/-- A device's place in its ring, -/
def plc (d : Dev nD) : ℕ := if (d.val / 4) % 2 = 0 then d.val % 4 else 7 - d.val % 4
/-- the device at a place of a ring, -/
def dv (x p : ℕ) : Dev nD := ⟨(8 * x + (if p % 8 < 4 then p % 8 else 11 - p % 8)) % 16, Nat.mod_lt _ (by decide)⟩
/-- its partner, -/
def par (d : Dev nD) : Dev nD := ⟨(d.val + 8) % 16, Nat.mod_lt _ (by decide)⟩
/-- and its neighbours. -/
def rgt (d : Dev nD) : Dev nD := dv (d.val / 8) (plc d + 1)
def lft (d : Dev nD) : Dev nD := dv (d.val / 8) (plc d + 7)
/-- The neighbour a lane travels to, -/
def nxt : Fin 4 → Dev nD → Dev nD
  | 0 => rgt
  | 1 => lft
  | 2 => rgt
  | 3 => lft
/-- the one it comes from, -/
def prv : Fin 4 → Dev nD → Dev nD
  | 0 => lft
  | 1 => rgt
  | 2 => lft
  | 3 => rgt
/-- the place a lane's slot `s` started from, -/
def opl (d : Dev nD) (l : Fin 4) (s : ℕ) : ℕ := (plc d + (if l.val % 2 = 0 then 7 * s else s)) % 8
/-- and the device there. -/
def org (d : Dev nD) (l : Fin 4) (s : ℕ) : Dev nD := dv (d.val / 8) (opl d l s)
/-- A lane's quarter of a block's columns. -/
def qtr : Fin 4 → ℕ
  | 0 => 0
  | 1 => 2
  | 2 => 1
  | 3 => 3

theorem par_par : ∀ d, par (par d) = d := by decide
theorem rgt_lft : ∀ d, rgt (lft d) = d := by decide +kernel
theorem lft_rgt : ∀ d, lft (rgt d) = d := by decide +kernel
theorem nxt_prv (l : Fin 4) (d : Dev nD) : nxt l (prv l d) = d := by
  match l with
  | 0 => exact rgt_lft d
  | 1 => exact lft_rgt d
  | 2 => exact rgt_lft d
  | 3 => exact lft_rgt d
theorem prv_nxt (l : Fin 4) (d : Dev nD) : prv l (nxt l d) = d := by
  match l with
  | 0 => exact lft_rgt d
  | 1 => exact rgt_lft d
  | 2 => exact lft_rgt d
  | 3 => exact rgt_lft d
theorem org_zero : ∀ (d : Dev nD) (l : Fin 4), org d l 0 = d := by decide +kernel
theorem org_nxt (d : Dev nD) (l : Fin 4) (s : ℕ) (hs : s < 7) : org (nxt l d) l (s + 1) = org d l s := by
  have h : ∀ (d : Dev nD) (l : Fin 4) (s : Fin 7), org (nxt l d) l (s.val + 1) = org d l s.val := by decide +kernel
  exact h d l ⟨s, hs⟩
/-- A lane's eight slots start from the eight places, -/
theorem opl_inj : ∀ (d : Dev nD) (l : Fin 4) (s t : Fin 8), opl d l s = opl d l t → s = t := by decide +kernel
theorem opl_lt (d : Dev nD) (l : Fin 4) (s : ℕ) : opl d l s < 8 := Nat.mod_lt _ (by decide)

/-! ## The printed words -/

theorem dev1_eq : ∀ d : Dev nD, (⟨k0_dev1 d, k0_dev1_lt d⟩ : Dev nD) = par d := by decide +kernel
theorem dev2_eq : ∀ d : Dev nD, (⟨k0_dev2 d, k0_dev2_lt d⟩ : Dev nD) = rgt d := by decide +kernel
theorem dev3_eq : ∀ d : Dev nD, (⟨k0_dev3 d, k0_dev3_lt d⟩ : Dev nD) = lft d := by decide +kernel
theorem ptn_eq : ∀ (d : Dev nD) (l : Fin 4), ptn d l = par d := by decide +kernel
theorem tgt_eq (d : Dev nD) (l : Fin 4) (s : ℕ) (hs : s < 7) : tgt d l s = nxt l d := by
  have h : ∀ (d : Dev nD) (l : Fin 4) (s : Fin 7), tgt d l s.val = nxt l d := by decide +kernel
  exact h d l ⟨s, hs⟩
theorem ofs_eq (d : Dev nD) (l : Fin 4) (s : ℕ) (hs : s < 8) : ofs d l s = ![0, 1024 * opl d l s + 256 * qtr l] := by
  have h : ∀ (d : Dev nD) (l : Fin 4) (s : Fin 8) (a : Fin 2), ofs d l s.val a = (![0, 1024 * opl d l s.val + 256 * qtr l] : Fin 2 → ℕ) a := by
    decide +kernel
  exact funext (h d l ⟨s, hs⟩)
theorem off1_eq : ∀ (d : Dev nD) (a : Fin 2), k0_off1 d a = (![0, 1024 * ((par d).val / 8)] : Fin 2 → ℕ) a := by decide +kernel
theorem off2_eq : ∀ (d : Dev nD) (a : Fin 2), k0_off2 d a = (![0, 1024 * (d.val / 8)] : Fin 2 → ℕ) a := by decide +kernel

/-! ## The semaphores by number -/

/-- What a semaphore counts. -/
inductive Kd
  | out (l : Fin 4) | xs (l : Fin 4) | xr (l : Fin 4) | snd (l : Fin 4) (s : ℕ) | rcv (l : Fin 4) (s : ℕ) | oth
deriving DecidableEq

def kind (n : DmaSem sig) : Kd :=
  if n.val < 2 then .oth
  else if n.val < 6 then .out (Fin.ofNat 4 (n.val - 2))
  else if n.val < 10 then .xs (Fin.ofNat 4 (n.val - 6))
  else if n.val < 14 then .xr (Fin.ofNat 4 (n.val - 10))
  else if n.val < 30 then .snd (Fin.ofNat 4 (2 * ((n.val - 14) / 8))) ((n.val - 14) % 8)
  else if n.val < 46 then .rcv (Fin.ofNat 4 (2 * ((n.val - 30) / 8))) ((n.val - 30) % 8)
  else if n.val < 62 then .snd (Fin.ofNat 4 (2 * ((n.val - 46) / 8) + 1)) ((n.val - 46) % 8)
  else .rcv (Fin.ofNat 4 (2 * ((n.val - 62) / 8) + 1)) ((n.val - 62) % 8)

theorem kind_out : ∀ l, kind (outS l) = .out l := by decide +kernel
theorem kind_xs : ∀ l, kind (xsS l) = .xs l := by decide +kernel
theorem kind_xr : ∀ l, kind (xrS l) = .xr l := by decide +kernel
theorem kind_snd (l : Fin 4) (s : ℕ) (hs : s < 8) : kind (sndS l s) = .snd l s := by
  have h : ∀ (l : Fin 4) (s : Fin 8), kind (sndS l s.val) = .snd l s.val := by decide +kernel
  exact h l ⟨s, hs⟩
theorem kind_rcv (l : Fin 4) (s : ℕ) (hs : s < 8) : kind (rcvS l s) = .rcv l s := by
  have h : ∀ (l : Fin 4) (s : Fin 8), kind (rcvS l s.val) = .rcv l s.val := by decide +kernel
  exact h l ⟨s, hs⟩

end Cert.KernelIdeal.Wg

end
-- ==== Proof.KI.Proto.lean ====
/- The protocol of the exchange: what each semaphore is raised by and what comes with it, what every
   device owes when it starts, and the order in which it may wait. -/
module

public import proofs.«01_k».proof.Proof.KI.Devs
public import Idealize.ShloMosaic.Lib.Rounds
public import Idealize.ShloMosaic.Lib.Memref
public import Idealize.ShloMosaic.Lib.Pipeline.Kit
public import Idealize.ShloMosaic.Lib.Tactic

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

abbrev UU : Type := UR sig nD τ × URounds (GSem nD τ sig) (Fin 3)

local notation "𝕄" => MT nD τ sig Unit (Elt F) ℕ UU ℕ

abbrev ER : Emb (URounds (GSem nD τ sig) (Fin 3)) (MT nD τ sig Unit (Elt F) ℕ UU ℕ) := embR

/-! ## Cells -/

abbrev barC (c : Dev nD) : GSem nD τ sig := ((c : Thread nD τ), .reg barrier0)
abbrev outC (c : Dev nD) (l : Fin 4) : GSem nD τ sig := ((c : Thread nD τ), .dma (outS l))
abbrev xsC (c : Dev nD) (l : Fin 4) : GSem nD τ sig := ((c : Thread nD τ), .dma (xsS l))
abbrev xrC (c : Dev nD) (l : Fin 4) : GSem nD τ sig := ((c : Thread nD τ), .dma (xrS l))
abbrev sndC (c : Dev nD) (l : Fin 4) (s : ℕ) : GSem nD τ sig := ((c : Thread nD τ), .dma (sndS l s))
abbrev rcvC (c : Dev nD) (l : Fin 4) (s : ℕ) : GSem nD τ sig := ((c : Thread nD τ), .dma (rcvS l s))

/-- What one tile's copy counts. -/
abbrev N : ℕ := (sT 0).view.dmaCredit
theorem N_pos : 0 < N := View.dmaCredit_pos _ (by decide)
theorem credit_sT (l : Fin 4) : (sT l).view.dmaCredit = N := rfl
theorem credit_rT (l : Fin 4) : (rT l).view.dmaCredit = N := rfl
theorem credit_cT (l : Fin 4) (s : ℕ) : (cT l s).view.dmaCredit = N := by
  match l with
  | 0 => rfl
  | 1 => rfl
  | 2 => rfl
  | 3 => rfl
theorem credit_oT (d : Dev nD) (l : Fin 4) (s : ℕ) : (oT d l s).view.dmaCredit = N := rfl

/-! ## What comes with a raise -/

/-- A tile at contents not chosen. -/
def anyT (c : Dev nD) {sp : Space} (m : Memref sig .tc sp S1024x256 .bf16) : sProp 𝕄 := iprop(∃ X, owns (c : Thread nD τ) m fullShare X)
instance anyT_storable (c : Dev nD) {sp : Space} (m : Memref sig .tc sp S1024x256 .bf16) :
    BI.Storable (upEmb : UEmb _ 𝕄) (anyT (F := F) c m) := by unfold anyT; infer_instance

/-- The device's four tiles for its partner's values, ready. -/
def readyX (c : Dev nD) : sProp 𝕄 :=
  BI.bigSep Finset.univ fun l : Fin 4 => iprop(anyT c (rT l) ∗ reached ER (xrC c l) 0)
/-- Slots 1 to 7 of one lane, ready. -/
def readyL (c : Dev nD) (l : Fin 4) : sProp 𝕄 :=
  BI.bigSep Finset.univ fun s : Fin 7 => iprop(anyT c (cT l (s.val + 1)) ∗ reached ER (rcvC c l (s.val + 1)) 0)

abbrev halfL : PosShare TreeShare := PosShare.left fullShare
abbrev halfR : PosShare TreeShare := PosShare.right fullShare

/- The values the tiles carry: `G`, what a device places for its partner; `T`, a device's own sums. -/
variable (G T : Dev nD → Fin 4 → S1024x256.Idx → Elt F .bf16)

/-- A lane's slot holds the sums of the device it came from. -/
def slotAt (q : PosShare TreeShare) (c : Dev nD) (l : Fin 4) (s : ℕ) : sProp 𝕄 := owns (c : Thread nD τ) (cT l s) q (T (org c l s) l)
instance slotAt_storable (q) (c : Dev nD) (l : Fin 4) (s : ℕ) : BI.Storable (upEmb : UEmb _ 𝕄) (slotAt T q c l s) := by
  unfold slotAt; infer_instance

def barPay (c : Dev nD) : Fin 3 → sProp 𝕄
  | 0 => readyX (par c)
  | 1 => iprop(readyL (lft c) 1 ∗ readyL (lft c) 3)
  | 2 => iprop(readyL (rgt c) 0 ∗ readyL (rgt c) 2)
def dmaPay (c : Dev nD) (r : ℕ) : Kd → sProp 𝕄
  | .out l => iprop(owns (c : Thread nD τ) (oT c l r) fullShare (T (org c l r) l) ∗ slotAt T halfR c l r)
  | .xs l => owns (c : Thread nD τ) (sT l) fullShare (G c l)
  | .xr l => owns (c : Thread nD τ) (rT l) fullShare (G (par c) l)
  | .snd l s => slotAt T halfL c l s
  | .rcv l s => slotAt T fullShare c l s
  | .oth => iprop(emp)
def dmaDuty (r : ℕ) : Kd → Prop
  | .out _ => r < 8
  | .xs _ => r = 0
  | .xr _ => r = 0
  | .snd _ s => r = 0 ∧ s < 7
  | .rcv _ s => r = 0 ∧ 1 ≤ s
  | .oth => False
instance (r : ℕ) : DecidablePred (dmaDuty r) := fun k => by cases k <;> (unfold dmaDuty; infer_instance)

def Rd : Rounds.Schedule (GSem nD τ sig) (Fin 3) 𝕄 where
  duties g r := if g.1.2 = .tc then (match g.2 with
    | .reg _ => if r = 0 then Finset.univ else ∅
    | .dma s => if dmaDuty r (kind s) then {0} else ∅) else ∅
  unitless _ := False
  amount g _ _ := match g.2 with
    | .reg _ => 1
    | .dma _ => N
  payload g r d := match g.2 with
    | .reg _ => barPay g.1.1 d
    | .dma s => dmaPay G T g.1.1 r (kind s)
  amount_pos g _ _ _ := by
    rcases g with ⟨t, _ | _⟩
    · exact Nat.one_pos
    · exact N_pos

instance Rd_storable (g : GSem nD τ sig) (r : ℕ) (d : Fin 3) : BI.Storable (upEmb : UEmb _ 𝕄) ((Rd G T).payload g r d) := by
  rcases g with ⟨t, b | s⟩
  · show BI.Storable upEmb (barPay t.1 d)
    match d with
    | 0 => unfold barPay readyX; infer_instance
    | 1 => unfold barPay readyL; infer_instance
    | 2 => unfold barPay readyL; infer_instance
  · show BI.Storable upEmb (dmaPay G T t.1 r (kind s))
    cases kind s <;> (unfold dmaPay; infer_instance)

/-! ## The schedule's rows -/

variable (c : Dev nD) (l : Fin 4)

theorem duties_bar : (Rd G T).duties (barC c) 0 = Finset.univ := rfl
theorem duties_dma (n : DmaSem sig) (r : ℕ) (h : dmaDuty r (kind n)) : (Rd G T).duties ((c : Thread nD τ), .dma n) r = {0} := if_pos h
theorem duties_bar_later : ∀ r, 1 ≤ r → (Rd G T).duties (barC c) r = ∅ := fun r hr => if_neg (by omega)
theorem duties_dma_later (n : DmaSem sig) (k : ℕ) (h : ∀ r, k ≤ r → ¬ dmaDuty r (kind n)) :
    ∀ r, k ≤ r → (Rd G T).duties ((c : Thread nD τ), .dma n) r = ∅ := fun r hr => if_neg (h r hr)
theorem expect_bar : (Rd G T).expect (barC c) 0 = 3 := by
  unfold Schedule.expect Schedule.amountOf; rw [duties_bar]; rfl
theorem expect_dma (n : DmaSem sig) (r : ℕ) (h : dmaDuty r (kind n)) : (Rd G T).expect ((c : Thread nD τ), .dma n) r = N := by
  unfold Schedule.expect Schedule.amountOf; rw [duties_dma G T c n r h, Finset.sum_singleton]; rfl
theorem rest_dma (n : DmaSem sig) (r : ℕ) (k : Kd) (hk : kind n = k) (h : dmaDuty r k) :
    BI.bigSep ((Rd G T).duties ((c : Thread nD τ), .dma n) r \ ∅) (fun d => (Rd G T).payload ((c : Thread nD τ), .dma n) r d)
      = dmaPay G T c r k := by
  subst hk
  rw [Finset.sdiff_empty, duties_dma G T c n r h, BI.bigSep_singleton]; rfl
theorem payload_dma (n : DmaSem sig) (r : ℕ) (d : Fin 3) (k : Kd) (hk : kind n = k) :
    (Rd G T).payload ((c : Thread nD τ), .dma n) r d = dmaPay G T c r k := by subst hk; rfl
theorem rest_bar :
    BI.bigSep ((Rd G T).duties (barC c) 0 \ ∅) (fun d => (Rd G T).payload (barC c) 0 d)
      = (iprop(readyX (par c) ∗ (readyL (lft c) 1 ∗ readyL (lft c) 3) ∗ (readyL (rgt c) 0 ∗ readyL (rgt c) 2)) : sProp 𝕄) := by
  rw [Finset.sdiff_empty, duties_bar, BI.bigSep_univ_eq_bigSepL [0, 1, 2] (by decide) (by decide)]; rfl

/-! ## What a device owes, and the levels -/

/-- The cells a device raises for others, in the order it raises them: -/
def payC (c : Dev nD) (j : ℕ) : GSem nD τ sig :=
  if j = 0 then barC (par c) else if j = 1 then barC (rgt c) else if j = 2 then barC (lft c)
  else if j < 7 then xrC (par c) (Fin.ofNat 4 (j - 3))
  else rcvC (nxt (Fin.ofNat 4 (j - 7)) c) (Fin.ofNat 4 (j - 7)) ((j - 7) / 4 + 1)
def payN (j : ℕ) : ℕ := if j < 3 then 1 else N
def owed (c : Dev nD) (n : ℕ) : CellTallies nD τ sig Unit := ∑ j ∈ Finset.Ico n 35, tallyAt (payC c j) () (payN j)

theorem owed_step (n : ℕ) (h : n < 35) : owed c n = owed c (n + 1) + tallyAt (payC c n) () (payN n) := by
  unfold owed; rw [show Finset.Ico n 35 = insert n (Finset.Ico (n + 1) 35) from by ext j; simp only [Finset.mem_Ico, Finset.mem_insert]; omega,
    Finset.sum_insert (by simp), add_comm]
theorem owed_end : owed c 35 = 0 := by unfold owed; rw [Finset.Ico_self, Finset.sum_empty]

theorem payC_xr : payC c (3 + l.val) = xrC (par c) l := by
  match l with
  | 0 => rfl
  | 1 => rfl
  | 2 => rfl
  | 3 => rfl
theorem payN_xr : payN (3 + l.val) = N := if_neg (by omega)
theorem payC_rcv (s : ℕ) : payC c (7 + 4 * s + l.val) = rcvC (nxt l c) l (s + 1) := by
  have hl := l.isLt
  have h1 : Fin.ofNat 4 (7 + 4 * s + l.val - 7) = l := Fin.ext (by show (7 + 4 * s + l.val - 7) % 4 = l.val; omega)
  have h2 : (7 + 4 * s + l.val - 7) / 4 = s := by omega
  unfold payC
  rw [if_neg (by omega), if_neg (by omega), if_neg (by omega), if_neg (by omega), h1, h2]
theorem payN_rcv (s : ℕ) : payN (7 + 4 * s + l.val) = N := if_neg (by omega)

def L (g : GSem nD τ sig) : Finset Unit := if g.1.2 = .tc then {()} else ∅
def klv : Kd → ℕ
  | .xr _ => 2
  | .rcv _ s => 2 + s
  | _ => 0
def lv (g : GSem nD τ sig) (_ : Unit) : ℕ := match g.2 with
  | .reg _ => 1
  | .dma s => klv (kind s)
theorem L_tc (sm : SemLoc sig) : L ((c : Thread nD τ), sm) = {()} := if_pos rfl

theorem payC_tc (j : ℕ) : () ∈ L (payC c j) := by
  unfold payC
  split; · exact Finset.mem_singleton_self _
  split; · exact Finset.mem_singleton_self _
  split; · exact Finset.mem_singleton_self _
  split <;> exact Finset.mem_singleton_self _

/-- Everything owed from the `n`th on lies above `b`. -/
theorem payC_lv (j : ℕ) (hj : j < 35) : lv (payC c j) () = if j < 3 then 1 else if j < 7 then 2 else 3 + (j - 7) / 4 := by
  unfold payC
  split; · rename_i h; rw [if_pos (by omega)]; rfl
  split; · rename_i h; rw [if_pos (by omega)]; rfl
  split; · rename_i h; rw [if_pos (by omega)]; rfl
  split
  · rename_i h; rw [if_neg (show ¬ j < 3 by omega)]; show klv (kind (xrS _)) = 2; rw [kind_xr]; rfl
  · rename_i h; rw [if_neg (show ¬ j < 3 by omega)]; show klv (kind (rcvS _ _)) = _; rw [kind_rcv _ _ (by omega)]; show 2 + _ = _; omega

theorem owed_pos (n : ℕ) (g : GSem nD τ sig) (u : Unit) (h : 0 < owed c n g u) : ∃ j, n ≤ j ∧ j < 35 ∧ g = payC c j := by
  unfold owed at h
  rw [Finset.sum_apply, Finsupp.finset_sum_apply] at h
  obtain ⟨j, hj, hp⟩ := Finset.exists_ne_zero_of_sum_ne_zero (Nat.pos_iff_ne_zero.mp h)
  rw [tallyAt_apply] at hp
  refine ⟨j, (Finset.mem_Ico.mp hj).1, (Finset.mem_Ico.mp hj).2, ?_⟩
  by_contra hn
  exact hp (if_neg fun h => hn h.1)

theorem mayWait (sm : SemLoc sig) (n : ℕ) (b : ℕ) (hb : lv ((c : Thread nD τ), sm) () ≤ b)
    (hn : ∀ j, n ≤ j → j < 35 → b < (if j < 3 then 1 else if j < 7 then 2 else 3 + (j - 7) / 4)) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by obtain ⟨j, _, _, rfl⟩ := owed_pos c n g u hg; exact payC_tc c j)
    (fun p hp => by rw [Finset.mem_singleton.mp hp]; exact hb)
    (fun g u hg => by obtain ⟨j, h1, h2, rfl⟩ := owed_pos c n g u hg; rw [show u = () from rfl, payC_lv c j h2]; exact hn j h1 h2)

/-- The device owing what is left from the `n`th on. -/
def owing (n : ℕ) : sProp 𝕄 := iprop(∃ W, owes (c : Thread nD τ) (owed c n) W)

end Cert.KernelIdeal.Wg

end
-- ==== Proof.KI.Rows.lean ====
/- One row of the exchange at a time: what it takes and what it leaves. -/
module

public import proofs.«01_k».proof.Proof.KI.Proto

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

abbrev 𝒱₀ : Variants := Variants.none

variable (G T : Dev nD → Fin 4 → S1024x256.Idx → Elt F .bf16)

/-! ## Tiles -/

section Tiles

variable {c : Dev nD} {sp : Space} {m : Memref sig .tc sp S1024x256 .bf16}

/-- A tile written whole holds what was written. -/
theorem owns_written (f : Buf (Elt F) (m.view.loc (c : Thread nD τ))) (X : S1024x256.Idx → Elt F .bf16) :
    (m.view.loc (c : Thread nD τ) ↦[m.view.set]{fullShare} (m.view.write (Elt F) f X Finset.univ) : sProp 𝕄)
      ⊢ owns (c : Thread nD τ) m fullShare X := by
  have h := owns_intro (Ix := Unit) (Name := ℕ) (U := UU) (Lvl := ℕ) (c : Thread nD τ) m fullShare (m.view.write (Elt F) f X Finset.univ)
  rwa [View.read_write_univ] at h

theorem anyT_of (X : S1024x256.Idx → Elt F .bf16) : (owns (c : Thread nD τ) m fullShare X : sProp 𝕄) ⊢ anyT c m := by
  unfold anyT; iintro H; iexists X; iexact H

/-- A tile in two halves, and whole again. -/
theorem owns_halves (X : S1024x256.Idx → Elt F .bf16) :
    (owns (c : Thread nD τ) m fullShare X : sProp 𝕄)
      ⊢ iprop(owns (c : Thread nD τ) m halfL X ∗ owns (c : Thread nD τ) m halfR X) := by
  unfold owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2
theorem owns_rejoin (X : S1024x256.Idx → Elt F .bf16) :
    iprop(owns (c : Thread nD τ) m halfL X ∗ owns (c : Thread nD τ) m halfR X)
      ⊢ (owns (c : Thread nD τ) m fullShare X : sProp 𝕄) := by
  unfold owns
  iintro ⟨⟨%f, %hf, H1⟩, ⟨%g, %hg, H2⟩⟩
  have e : ∀ i ∈ m.view.set, g i = f i := by
    intro i hi
    obtain ⟨j, _, rfl⟩ := Finset.mem_map.mp hi
    have h := congrFun (hg.trans hf.symm) j
    rw [View.read_apply, View.read_apply] at h
    exact eq_of_heq ((cast_heq _ _).symm.trans ((heq_of_eq h).trans (cast_heq _ _)))
  iexists f
  isplitr; · ipureintro; exact hf
  iapply (pointsTo_share (PosShare.mem_left_op_right fullShare)).2
  isplitl [H1]; · iexact H1
  ihave H2' := (Entails.of_eq (pointsTo_congr e)) $$ H2
  iexact H2'

end Tiles

/-! ## What every row may use -/

def isCell : SemLoc sig → Bool
  | .reg _ => true
  | .dma n => decide (kind n ≠ .oth)
def cells : Finset (GSem nD τ sig) :=
  ((Finset.univ : Finset (Dev nD)) ×ˢ ((Finset.univ : Finset (SemLoc sig)).filter fun sm => isCell sm = true)).map
    ⟨fun x : Dev nD × SemLoc sig => (((x.1 : Thread nD τ), x.2) : GSem nD τ sig),
      fun x y h => Prod.ext (congrArg (fun g : GSem nD τ sig => g.1.1) h) (congrArg (fun g : GSem nD τ sig => g.2) h)⟩
theorem mem_cells (c : Dev nD) (sm : SemLoc sig) (h : isCell sm = true) : ((c : Thread nD τ), sm) ∈ cells := by
  unfold cells
  rw [Finset.mem_map]
  refine ⟨(c, sm), ?_, rfl⟩
  rw [Finset.mem_product, Finset.mem_filter]
  exact ⟨Finset.mem_univ _, Finset.mem_univ _, h⟩

/-- The cells' invariants, and the levels. -/
def ctx (K : GSem nD τ sig → ℕ) : sProp 𝕄 :=
  iprop(BI.bigSep cells (fun g => cellInv ER (Rd G T) (K g) g) ∗ levAts L lv)
instance ctx_persistent (K : GSem nD τ sig → ℕ) : BI.Persistent (ctx G T K) := by unfold ctx; infer_instance

variable (K : GSem nD τ sig → ℕ) (c : Dev nD) (l : Fin 4)

theorem ctx_lev : ctx G T K ⊢ (levAts L lv : sProp 𝕄) := by unfold ctx; iintro ⟨-, H⟩; iexact H
theorem ctx_cell (g : GSem nD τ sig) (h : g ∈ cells) : ctx G T K ⊢ (cellInv ER (Rd G T) (K g) g : sProp 𝕄) := by
  unfold ctx
  exact Laws.sep_elim_left.trans (BI.bigSep_elim (Φ := fun g => cellInv ER (Rd G T) (K g) g) h)
theorem ctx_dma (n : DmaSem sig) (k : Kd) (hk : kind n = k) (h : k ≠ .oth) :
    ctx G T K ⊢ (cellInv ER (Rd G T) (K ((c : Thread nD τ), .dma n)) ((c : Thread nD τ), .dma n) : sProp 𝕄) :=
  ctx_cell G T K _ (mem_cells c (.dma n) (decide_eq_true (hk ▸ h)))
theorem ctx_bar : ctx G T K ⊢ (cellInv ER (Rd G T) (K (barC c)) (barC c) : sProp 𝕄) :=
  ctx_cell G T K _ (mem_cells c (.reg barrier0) rfl)

set_option maxRecDepth 8192 in
/-- One wait on one of the device's own counters: the round's payload comes with it. -/
theorem wait_row (n : DmaSem sig) (r : ℕ) (k : Kd) (hk : kind n = k) (hd : dmaDuty r k) (j : ℕ)
    (hw : ∀ i, j ≤ i → i < 35 → klv k < (if i < 3 then 1 else if i < 7 then 2 else 3 + (i - 7) / 4))
    {sp sp' : Space} (src : Memref sig .tc sp' S1024x256 .bf16) (dst : Memref sig .tc sp S1024x256 .bf16) (hsrc : src.view.WordExact) (hdst : dst.view.WordExact)
    (hN : dst.view.dmaCredit = N) (Kt : PUnit → sProp 𝕄) :
    iprop(ctx G T K ∗ cred (tallyAt ((c : Thread nD τ), .dma n) () N) ∗ atPos ER ((c : Thread nD τ), .dma n) r ∅ 0 ∗ owing c j
        ∗ ((dmaPay G T c r k ∗ atPos ER ((c : Thread nD τ), .dma n) (r + 1) ∅ 0 ∗ reached ER ((c : Thread nD τ), .dma n) (r + 1) ∗ owing c j) -∗ Kt ⟨⟩))
      ⊢ wp frame (wpE (defs₀ (F := F)) 𝒱₀ (c : Thread nD τ) none) Set.univ (Prog.lift (.waitDma2 n src dst hsrc hdst)) Kt := by
  unfold owing
  iintro ⟨#Hc, Hcr, Hat, ⟨%W, HO⟩, Hk⟩
  iapply (Rounds.wp_wait_rest_token 𝒱₀ ER (Rd G T) (c : Thread nD τ) none (κ := K ((c : Thread nD τ), .dma n))
      (wpE_waitDma2_eq 𝒱₀ (c : Thread nD τ) none Set.univ) (Set.mem_univ _) () (O := owed c j) (W := W) (R := r) (m := 0) (T := ∅)
      (by rw [hN, expect_dma G T c n r (hk ▸ hd), Nat.zero_add])) $$ [Hcr HO Hat]
  · isplitr; · iapply (ctx_dma G T K c n k hk (by rintro rfl; exact hd)); iexact Hc
    rw [hN]
    isplitl [Hcr]; · iexact Hcr
    isplitl [HO]; · iexact HO
    isplitr
    · have e1 := mayWait (F := F) c (.dma n) j (klv k) (by show klv (kind n) ≤ _; rw [hk]) hw
      have e2 := ctx_lev G T K
      have e3 := e2.trans e1
      iapply e3
      iexact Hc
    iexact Hat
  iintro ⟨HO, Hat, Hr, Hpay⟩
  have e := rest_dma G T c n r k hk hd
  ihave Hp := (Entails.of_eq e) $$ Hpay
  rw [wp_ret]
  imodintro
  iapply Hk
  isplitl [Hp]; · iexact Hp
  isplitl [Hat]; · iexact Hat
  isplitl [Hr]; · iexact Hr
  iexists _; iexact HO

/-- One tile's copy within the device. -/
theorem here_row (n : DmaSem sig) (r : ℕ) (k : Kd) (hk : kind n = k) (hd : dmaDuty r k)
    {sp sp' : Space} (src : Memref sig .tc sp' S1024x256 .bf16) (dst : Memref sig .tc sp S1024x256 .bf16) (hsrc : src.view.WordExact) (hdst : dst.view.WordExact)
    (hsem : DmaTarget.Typed (nD := nD) (τ := τ) sp' (.dma n) (DmaTarget.here (p := .tc) dst)) (hN : dst.view.dmaCredit = N) (q : PosShare TreeShare) (X : S1024x256.Idx → Elt F .bf16)
    (hpay : iprop(owns (c : Thread nD τ) dst fullShare X ∗ owns (c : Thread nD τ) src q X) ⊢ dmaPay G T c r k)
    (Kt : PUnit → sProp 𝕄) :
    iprop(ctx G T K ∗ owns (c : Thread nD τ) src q X ∗ anyT c dst ∗ dutyTok ER ((c : Thread nD τ), .dma n) r 0 ∗ reached ER ((c : Thread nD τ), .dma n) r
        ∗ (cred (tallyAt ((c : Thread nD τ), .dma n) () N) -∗ Kt ⟨⟩))
      ⊢ wp frame (wpE (defs₀ (F := F)) 𝒱₀ (c : Thread nD τ) none) Set.univ (Prog.lift (.enqueueDma src (.here dst) (.dma n) hsrc hdst hsem)) Kt := by
  unfold anyT
  iintro ⟨#Hc, Hs, ⟨%Y, Hd⟩, Ht, Hr, Hk⟩
  ihave Hs' := (show owns (c : Thread nD τ) src q X ⊢ iprop(∃ f, ⌜src.view.read (Elt F) f = X⌝ ∗ (src.view.loc (c : Thread nD τ) ↦[src.view.set]{q} f)) from .rfl) $$ Hs
  ihave Hd' := (show owns (c : Thread nD τ) dst fullShare Y ⊢ iprop(∃ f, ⌜dst.view.read (Elt F) f = Y⌝ ∗ (dst.view.loc (c : Thread nD τ) ↦[dst.view.set]{fullShare} f)) from .rfl) $$ Hd
  icases Hs' with ⟨%f, %hf, Hs⟩
  icases Hd' with ⟨%g, -, Hd⟩
  subst hf
  iapply (Rounds.wp_copy_pointsTo 𝒱₀ ER (Rd G T) (c : Thread nD τ) none (src := src) (dst := dst) (sem := .dma n) (q := q)
      (fs := f) (fd := g) (r := r) (d := 0) (κ := K ((c : Thread nD τ), .dma n))
      (by rw [duties_dma G T c n r (hk ▸ hd)]; exact Finset.mem_singleton_self _) () N hN rfl
      (by rw [payload_dma G T c n r 0 k hk]
          exact (BI.sep_mono (owns_written (c := c) g _) (owns_intro (c : Thread nD τ) src q f)).trans hpay)) $$ [Hs Hd Ht Hr]
  · isplitr; · iapply (ctx_dma G T K c n k hk (by rintro rfl; exact hd)); iexact Hc
    isplitl [Hs]; · iexact Hs
    isplitl [Hd]; · iexact Hd
    isplitl [Ht]; · iexact Ht
    iexact Hr
  iintro Hcr
  rw [wp_ret]
  imodintro
  iapply Hk
  iexact Hcr

/-- One tile's copy to another device `e`: it pays what was owed there. -/
theorem there_row (e : Dev nD) (n n' : DmaSem sig) (k k' : Kd) (hk : kind n = k) (hd : dmaDuty 0 k) (hk' : kind n' = k') (hd' : dmaDuty 0 k')
    (j : ℕ) (hj : j < 35) (hc : payC c j = ((e : Thread nD τ), .dma n')) (hn : payN j = N)
    {sp sp' : Space} (src : Memref sig .tc sp' S1024x256 .bf16) (dst : Memref sig .tc sp S1024x256 .bf16) (hsrc : src.view.WordExact) (hdst : dst.view.WordExact)
    (hsc : dst.view.ref.isScScratch = false)
    (hsem : DmaTarget.Typed (nD := nD) (τ := τ) sp' (.dma n') (.remote (Dev.tc e) dst (.dma n) hsc)) (hN : dst.view.dmaCredit = N) (q : PosShare TreeShare) (X : S1024x256.Idx → Elt F .bf16)
    (hpay : owns (c : Thread nD τ) src q X ⊢ dmaPay G T c 0 k) (hpay' : owns (e : Thread nD τ) dst fullShare X ⊢ dmaPay G T e 0 k')
    (Kt : PUnit → sProp 𝕄) :
    iprop(ctx G T K ∗ owns (c : Thread nD τ) src q X ∗ anyT e dst
        ∗ dutyTok ER ((c : Thread nD τ), .dma n) 0 0 ∗ reached ER ((c : Thread nD τ), .dma n) 0
        ∗ dutyTok ER ((e : Thread nD τ), .dma n') 0 0 ∗ reached ER ((e : Thread nD τ), .dma n') 0 ∗ owing c j
        ∗ ((cred (tallyAt ((c : Thread nD τ), .dma n) () N) ∗ owing c (j + 1)) -∗ Kt ⟨⟩))
      ⊢ wp frame (wpE (defs₀ (F := F)) 𝒱₀ (c : Thread nD τ) none) Set.univ
          (Prog.lift (.enqueueDma src (.remote (Dev.tc e) dst (.dma n) hsc) (.dma n') hsrc hdst hsem)) Kt := by
  unfold anyT owing
  iintro ⟨#Hc, Hs, ⟨%Y, Hd⟩, Ht, Hr, Ht', Hr', ⟨%W, HO⟩, Hk⟩
  ihave Hs' := (show owns (c : Thread nD τ) src q X ⊢ iprop(∃ f, ⌜src.view.read (Elt F) f = X⌝ ∗ (src.view.loc (c : Thread nD τ) ↦[src.view.set]{q} f)) from .rfl) $$ Hs
  ihave Hd' := (show owns (e : Thread nD τ) dst fullShare Y ⊢ iprop(∃ f, ⌜dst.view.read (Elt F) f = Y⌝ ∗ (dst.view.loc (e : Thread nD τ) ↦[dst.view.set]{fullShare} f)) from .rfl) $$ Hd
  icases Hs' with ⟨%f, %hf, Hs⟩
  icases Hd' with ⟨%g, -, Hd⟩
  subst hf
  iapply (Rounds.wp_send_pointsTo 𝒱₀ ER (Rd G T) (c : Thread nD τ) none (c' := (e : Thread nD τ)) (src := src) (dst := dst)
      (sS := .dma n) (sem := .dma n') (q := q) (fs := f) (κ₁ := K ((c : Thread nD τ), .dma n)) (κ₂ := K ((e : Thread nD τ), .dma n'))
      (r₁ := 0) (r₂ := 0) (d₁ := 0) (d₂ := 0) (fd := g)
      (by rw [duties_dma G T c n 0 (hk ▸ hd)]; exact Finset.mem_singleton_self _)
      (by rw [duties_dma G T e n' 0 (hk' ▸ hd')]; exact Finset.mem_singleton_self _)
      () () N hN rfl rfl (owed c (j + 1)) ((owed_step c j hj).trans (by rw [hc, hn])) (W := W)
      (by rw [payload_dma G T c n 0 0 k hk]; exact (owns_intro (c : Thread nD τ) src q f).trans hpay)
      (by rw [payload_dma G T e n' 0 0 k' hk']; exact (owns_written (c := e) g _).trans hpay')) $$ [Hs Hd HO Ht Hr Ht' Hr']
  · isplitr; · iapply (ctx_dma G T K c n k hk (by rintro rfl; exact hd)); iexact Hc
    isplitr; · iapply (ctx_dma G T K e n' k' hk' (by rintro rfl; exact hd')); iexact Hc
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hcr, HO⟩
  rw [wp_ret]
  imodintro
  iapply Hk
  isplitl [Hcr]; · iexact Hcr
  iexists _; iexact HO

end Cert.KernelIdeal.Wg

end
-- ==== Proof.KI.Lanes.lean ====
/- The rows of one lane: what each takes and what it leaves. -/
module

public import proofs.«01_k».proof.Proof.KI.Rows

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (G T : Dev nD → Fin 4 → S1024x256.Idx → Elt F .bf16) (K : GSem nD τ sig → ℕ) (c : Dev nD) (l : Fin 4) (s : ℕ)

/-- A row run on device `c`, with what comes after. -/
abbrev runs (p : P (F := F) PUnit) (Kt : PUnit → sProp 𝕄) : sProp 𝕄 :=
  wp frame (wpE (defs₀ (F := F)) 𝒱₀ (c : Thread nD τ) none) Set.univ p Kt

/-! ## What a row takes and leaves -/

/-- The next device's slot `s + 1`, ready. -/
def dest : sProp 𝕄 := iprop(anyT (nxt l c) (cT l (s + 1)) ∗ reached ER (rcvC (nxt l c) l (s + 1)) 0)
/-- To send slot `s` on; sent; and its source back. -/
def passIn : sProp 𝕄 :=
  iprop(dutyTok ER (sndC c l s) 0 0 ∗ reached ER (sndC c l s) 0 ∗ dutyTok ER (rcvC (nxt l c) l (s + 1)) 0 0 ∗ atPos ER (sndC c l s) 0 ∅ 0)
def sent : sProp 𝕄 := iprop(cred (tallyAt (sndC c l s) () N) ∗ atPos ER (sndC c l s) 0 ∅ 0)
def sentEnd : sProp 𝕄 := iprop(slotAt T halfL c l s ∗ atPos ER (sndC c l s) 1 ∅ 0)
/-- To copy slot `s` out; the count of copies done; one in flight; and its end. -/
def outIn : sProp 𝕄 := iprop(dutyTok ER (outC c l) s 0 ∗ anyT c (oT c l s))
def outAt : sProp 𝕄 := iprop(atPos ER (outC c l) s ∅ 0 ∗ reached ER (outC c l) s)
def flying : sProp 𝕄 := iprop(cred (tallyAt (outC c l) () N) ∗ atPos ER (outC c l) s ∅ 0)
def outEnd : sProp 𝕄 := iprop(owns (c : Thread nD τ) (oT c l s) fullShare (T (org c l s) l) ∗ slotAt T halfR c l s)
/-- To hear of slot `s + 1`, and heard. -/
def rcvIn : sProp 𝕄 := iprop(cred (tallyAt (rcvC c l (s + 1)) () N) ∗ atPos ER (rcvC c l (s + 1)) 0 ∅ 0)
def rcvEnd : sProp 𝕄 := atPos ER (rcvC c l (s + 1)) 1 ∅ 0

/-- The same for all four lanes. -/
def B4 (Φ : Fin 4 → sProp 𝕄) : sProp 𝕄 := iprop(Φ 0 ∗ Φ 1 ∗ Φ 2 ∗ Φ 3)

theorem slot_halves : slotAt T fullShare c l s ⊢ iprop(slotAt T halfL c l s ∗ slotAt T halfR c l s) := owns_halves _
theorem slot_whole : iprop(slotAt T halfL c l s ∗ slotAt T halfR c l s) ⊢ slotAt T fullShare c l s := owns_rejoin _

theorem dmaPay_out : dmaPay G T c s (.out l) = outEnd T c l s := rfl
theorem dmaPay_rcv : dmaPay G T c 0 (.rcv l s) = slotAt T fullShare c l s := rfl
theorem dmaPay_snd : dmaPay G T c 0 (.snd l s) = slotAt T halfL c l s := rfl

/-! ## The rows -/

/-- A slot sent to a device given. -/
def passTo (e : Dev nD) : P (F := F) PUnit :=
  Prog.lift (.enqueueDma (cT l s) (.remote (Dev.tc e) (cT l (s + 1)) (.dma (sndS l s))) (.dma (rcvS l (s + 1)))
    (cT_words l s) (cT_words l (s + 1)) ⟨⟨rfl, Or.inl rfl⟩, trivial⟩)
theorem pass_eq (hs : s < 7) : pass c l s = passTo (F := F) l s (nxt l c) :=
  (show pass c l s = passTo (F := F) l s (tgt c l s) from rfl).trans (by rw [tgt_eq c l s hs])

set_option maxRecDepth 8192 in
theorem pass_row (hs : s < 7) (Kt : PUnit → sProp 𝕄) :
    iprop(ctx G T K ∗ slotAt T halfL c l s ∗ passIn c l s ∗ dest c l s ∗ owing c (7 + 4 * s + l.val)
        ∗ ((sent c l s ∗ owing c (7 + 4 * s + l.val + 1)) -∗ Kt ⟨⟩))
      ⊢ runs c (pass c l s) Kt := by
  have hl := l.isLt
  rw [pass_eq c l s hs]
  unfold passTo
  unfold slotAt passIn dest sent
  iintro ⟨#Hc, Hs, ⟨Ht, Hr, Ht', Hat⟩, ⟨Hd, Hr'⟩, HO, Hk⟩
  iapply (there_row G T K c (nxt l c) (sndS l s) (rcvS l (s + 1)) (.snd l s) (.rcv l (s + 1))
    (kind_snd l s (by omega)) ⟨rfl, hs⟩ (kind_rcv l (s + 1) (by omega)) ⟨rfl, by omega⟩
    (7 + 4 * s + l.val) (by omega) (payC_rcv c l s) (payN_rcv l s) (cT l s) (cT l (s + 1)) (cT_words l s) (cT_words l (s + 1)) _ _
    (credit_cT l (s + 1)) halfL (T (org c l s) l) .rfl (by rw [dmaPay_rcv, ← org_nxt c l s hs]; exact .rfl)) $$ [-]
  isplitr; · iexact Hc
  isplitl [Hs]; · iexact Hs
  isplitl [Hd]; · iexact Hd
  isplitl [Ht]; · iexact Ht
  isplitl [Hr]; · iexact Hr
  isplitl [Ht']; · iexact Ht'
  isplitl [Hr']; · iexact Hr'
  isplitl [HO]; · iexact HO
  iintro ⟨Hcr, HO⟩
  iapply Hk
  isplitl [Hcr Hat]
  · isplitl [Hcr]; · iexact Hcr
    iexact Hat
  iexact HO

set_option maxRecDepth 8192 in
theorem copyOut_row (hs : s < 8) (Kt : PUnit → sProp 𝕄) :
    iprop(ctx G T K ∗ slotAt T halfR c l s ∗ outIn c l s ∗ outAt c l s ∗ (flying c l s -∗ Kt ⟨⟩))
      ⊢ runs c (copyOut c l s) Kt := by
  unfold copyOut slotAt outIn outAt flying
  iintro ⟨#Hc, Hs, ⟨Ht, Ho⟩, ⟨Hat, Hr⟩, Hk⟩
  iapply (here_row G T K c (outS l) s (.out l) (kind_out l) hs (cT l s) (oT c l s) (cT_words l s) (oT_words c l s) _
    (credit_oT c l s) halfR (T (org c l s) l) .rfl) $$ [-]
  isplitr; · iexact Hc
  isplitl [Hs]; · iexact Hs
  isplitl [Ho]; · iexact Ho
  isplitl [Ht]; · iexact Ht
  isplitl [Hr]; · iexact Hr
  iintro Hcr
  iapply Hk
  isplitl [Hcr]; · iexact Hcr
  iexact Hat

set_option maxRecDepth 8192 in
theorem waitOut_row (hs : s < 8) (j : ℕ) (hj : 3 ≤ j) (Kt : PUnit → sProp 𝕄) :
    iprop(ctx G T K ∗ flying c l s ∗ owing c j ∗ ((outEnd T c l s ∗ outAt c l (s + 1) ∗ owing c j) -∗ Kt ⟨⟩))
      ⊢ runs c (waitOut c l s) Kt := by
  unfold waitOut flying outAt
  iintro ⟨#Hc, ⟨Hcr, Hat⟩, HO, Hk⟩
  iapply (wait_row G T K c (outS l) s (.out l) (kind_out l) hs j
    (fun i h1 h2 => by show 0 < _; split_ifs <;> omega) (cT l s) (oT c l s) (cT_words l s) (oT_words c l s) (credit_oT c l s)) $$ [-]
  isplitr; · iexact Hc
  isplitl [Hcr]; · iexact Hcr
  isplitl [Hat]; · iexact Hat
  isplitl [HO]; · iexact HO
  iintro ⟨Hp, Hat, Hr, HO⟩
  ihave Hp := (Entails.of_eq (dmaPay_out G T c l s)) $$ Hp
  iapply Hk
  isplitl [Hp]; · iexact Hp
  isplitl [Hat Hr]
  · isplitl [Hat]; · iexact Hat
    iexact Hr
  iexact HO

set_option maxRecDepth 8192 in
theorem waitRcv_row (hs : s < 7) (Kt : PUnit → sProp 𝕄) :
    iprop(ctx G T K ∗ rcvIn c l s ∗ owing c (7 + 4 * (s + 1) + l.val)
        ∗ ((slotAt T fullShare c l (s + 1) ∗ rcvEnd c l s ∗ owing c (7 + 4 * (s + 1) + l.val)) -∗ Kt ⟨⟩))
      ⊢ runs c (waitRcv l s) Kt := by
  unfold waitRcv rcvIn rcvEnd
  iintro ⟨#Hc, ⟨Hcr, Hat⟩, HO, Hk⟩
  iapply (wait_row G T K c (rcvS l (s + 1)) 0 (.rcv l (s + 1)) (kind_rcv l (s + 1) (by omega)) ⟨rfl, by omega⟩ (7 + 4 * (s + 1) + l.val)
    (fun i h1 h2 => by show 2 + (s + 1) < _; split_ifs <;> omega) (cT l s) (cT l (s + 1)) (cT_words l s) (cT_words l (s + 1)) (credit_cT l (s + 1))) $$ [-]
  isplitr; · iexact Hc
  isplitl [Hcr]; · iexact Hcr
  isplitl [Hat]; · iexact Hat
  isplitl [HO]; · iexact HO
  iintro ⟨Hp, Hat, Hr, HO⟩
  ihave Hp := (Entails.of_eq (dmaPay_rcv G T c l (s + 1))) $$ Hp
  iapply Hk
  isplitl [Hp]; · iexact Hp
  isplitl [Hat]; · iexact Hat
  iexact HO

set_option maxRecDepth 8192 in
theorem waitSnd_row (hs : s < 7) (j : ℕ) (hj : 3 ≤ j) (Kt : PUnit → sProp 𝕄) :
    iprop(ctx G T K ∗ sent c l s ∗ owing c j ∗ ((sentEnd T c l s ∗ owing c j) -∗ Kt ⟨⟩))
      ⊢ runs c (waitSnd l s) Kt := by
  unfold waitSnd sent sentEnd
  iintro ⟨#Hc, ⟨Hcr, Hat⟩, HO, Hk⟩
  iapply (wait_row G T K c (sndS l s) 0 (.snd l s) (kind_snd l s (by omega)) ⟨rfl, hs⟩ j
    (fun i h1 h2 => by show 0 < _; split_ifs <;> omega) (cT l (s + 1)) (cT l s) (cT_words l (s + 1)) (cT_words l s) (credit_cT l s)) $$ [-]
  isplitr; · iexact Hc
  isplitl [Hcr]; · iexact Hcr
  isplitl [Hat]; · iexact Hat
  isplitl [HO]; · iexact HO
  iintro ⟨Hp, Hat, Hr, HO⟩
  ihave Hp := (Entails.of_eq (dmaPay_snd G T c l s)) $$ Hp
  iapply Hk
  isplitl [Hp Hat]
  · isplitl [Hp]; · iexact Hp
    iexact Hat
  iexact HO

/-! ## A lane's hop -/

def hopIn : sProp 𝕄 := iprop(rcvIn c l s ∗ passIn c l (s + 1) ∗ outIn c l (s + 1))
def hopEnd : sProp 𝕄 := iprop(rcvEnd c l s ∗ sent c l (s + 1) ∗ outEnd T c l s)

theorem hop_row (hs : s < 6) (n : ℕ) (hn : n = 7 + 4 * (s + 1) + l.val) (Kt : PUnit → sProp 𝕄) :
    iprop(ctx G T K ∗ hopIn c l s ∗ dest c l (s + 1) ∗ flying c l s ∗ owing c n
        ∗ ((hopEnd T c l s ∗ flying c l (s + 1) ∗ owing c (n + 1)) -∗ Kt ⟨⟩))
      ⊢ runs c (hop c l s) Kt := by
  subst hn
  unfold hop runs
  simp only [wp_bind]
  unfold hopIn hopEnd
  iintro ⟨#Hc, ⟨Hri, Hpi, Hoi⟩, Hd, Hf, HO, Hk⟩
  iapply (waitRcv_row G T K c l s (by omega)) $$ [-]
  isplitr; · iexact Hc
  isplitl [Hri]; · iexact Hri
  isplitl [HO]; · iexact HO
  iintro ⟨Hs, Hre, HO⟩
  ihave Hs' := (slot_halves T c l (s + 1)) $$ Hs
  icases Hs' with ⟨HL, HR⟩
  iapply (pass_row G T K c l (s + 1) (by omega)) $$ [-]
  isplitr; · iexact Hc
  isplitl [HL]; · iexact HL
  isplitl [Hpi]; · iexact Hpi
  isplitl [Hd]; · iexact Hd
  isplitl [HO]; · iexact HO
  iintro ⟨Hse, HO⟩
  iapply (waitOut_row G T K c l s (by omega) (7 + 4 * (s + 1) + l.val + 1) (by omega)) $$ [-]
  isplitr; · iexact Hc
  isplitl [Hf]; · iexact Hf
  isplitl [HO]; · iexact HO
  iintro ⟨Hoe, Hoa, HO⟩
  iapply (copyOut_row G T K c l (s + 1) (by omega)) $$ [-]
  isplitr; · iexact Hc
  isplitl [HR]; · iexact HR
  isplitl [Hoi]; · iexact Hoi
  isplitl [Hoa]; · iexact Hoa
  iintro Hf
  iapply Hk
  isplitl [Hre Hse Hoe]
  · isplitl [Hre]; · iexact Hre
    isplitl [Hse]; · iexact Hse
    iexact Hoe
  isplitl [Hf]; · iexact Hf
  iexact HO

theorem hops_row (hs : s < 6) (n : ℕ) (hn : n = 7 + 4 * (s + 1)) (Kt : PUnit → sProp 𝕄) :
    iprop(ctx G T K ∗ B4 (fun l => hopIn c l s) ∗ B4 (fun l => dest c l (s + 1)) ∗ B4 (fun l => flying c l s) ∗ owing c n
        ∗ ((B4 (fun l => hopEnd T c l s) ∗ B4 (fun l => flying c l (s + 1)) ∗ owing c (n + 4)) -∗ Kt ⟨⟩))
      ⊢ runs c (hops c s) Kt := by
  unfold hops runs
  simp only [wp_bind]
  unfold B4
  iintro ⟨#Hc, ⟨Hi0, Hi1, Hi2, Hi3⟩, ⟨Hd0, Hd1, Hd2, Hd3⟩, ⟨Hf0, Hf1, Hf2, Hf3⟩, HO, Hk⟩
  iapply (hop_row G T K c 0 s hs n hn) $$ [-]
  isplitr; · iexact Hc
  isplitl [Hi0]; · iexact Hi0
  isplitl [Hd0]; · iexact Hd0
  isplitl [Hf0]; · iexact Hf0
  isplitl [HO]; · iexact HO
  iintro ⟨He0, Hf0, HO⟩
  iapply (hop_row G T K c 1 s hs (n + 1) (by rw [hn]; rfl)) $$ [-]
  isplitr; · iexact Hc
  isplitl [Hi1]; · iexact Hi1
  isplitl [Hd1]; · iexact Hd1
  isplitl [Hf1]; · iexact Hf1
  isplitl [HO]; · iexact HO
  iintro ⟨He1, Hf1, HO⟩
  iapply (hop_row G T K c 2 s hs (n + 1 + 1) (by rw [hn]; rfl)) $$ [-]
  isplitr; · iexact Hc
  isplitl [Hi2]; · iexact Hi2
  isplitl [Hd2]; · iexact Hd2
  isplitl [Hf2]; · iexact Hf2
  isplitl [HO]; · iexact HO
  iintro ⟨He2, Hf2, HO⟩
  iapply (hop_row G T K c 3 s hs (n + 1 + 1 + 1) (by rw [hn]; rfl)) $$ [-]
  isplitr; · iexact Hc
  isplitl [Hi3]; · iexact Hi3
  isplitl [Hd3]; · iexact Hd3
  isplitl [Hf3]; · iexact Hf3
  isplitl [HO]; · iexact HO
  iintro ⟨He3, Hf3, HO⟩
  iapply Hk
  isplitl [He0 He1 He2 He3]
  · isplitl [He0]; · iexact He0
    isplitl [He1]; · iexact He1
    isplitl [He2]; · iexact He2
    iexact He3
  isplitl [Hf0 Hf1 Hf2 Hf3]
  · isplitl [Hf0]; · iexact Hf0
    isplitl [Hf1]; · iexact Hf1
    isplitl [Hf2]; · iexact Hf2
    iexact Hf3
  iexact HO

/-! ## The last slot and the drain -/

def lastIn : sProp 𝕄 := iprop(rcvIn c l 6 ∗ outIn c l 7)
def lastEnd : sProp 𝕄 := iprop(rcvEnd c l 6 ∗ outEnd T c l 6 ∗ slotAt T halfL c l 7)

theorem owing_end (j : ℕ) (hj : 35 ≤ j) : owing c 35 ⊢ (owing c j : sProp 𝕄) := by
  unfold owing owed; rw [Finset.Ico_self, Finset.Ico_eq_empty (by omega)]
theorem owing_end' (j : ℕ) (hj : 35 ≤ j) : (owing c j : sProp 𝕄) ⊢ owing c 35 := by
  unfold owing owed; rw [Finset.Ico_self, Finset.Ico_eq_empty (by omega)]

theorem last_row (Kt : PUnit → sProp 𝕄) :
    iprop(ctx G T K ∗ lastIn c l ∗ flying c l 6 ∗ owing c 35 ∗ ((lastEnd T c l ∗ flying c l 7 ∗ owing c 35) -∗ Kt ⟨⟩))
      ⊢ runs c (last c l) Kt := by
  unfold last runs
  simp only [wp_bind]
  unfold lastIn lastEnd
  iintro ⟨#Hc, ⟨Hri, Hoi⟩, Hf, HO, Hk⟩
  iapply (waitRcv_row G T K c l 6 (by omega)) $$ [-]
  isplitr; · iexact Hc
  isplitl [Hri]; · iexact Hri
  isplitl [HO]; · iapply (owing_end c (7 + 4 * (6 + 1) + l.val) (by omega)); iexact HO
  iintro ⟨Hs, Hre, HO⟩
  ihave Hs' := (slot_halves T c l 7) $$ Hs
  icases Hs' with ⟨HL, HR⟩
  iapply (waitOut_row G T K c l 6 (by omega) (7 + 4 * (6 + 1) + l.val) (by omega)) $$ [-]
  isplitr; · iexact Hc
  isplitl [Hf]; · iexact Hf
  isplitl [HO]; · iexact HO
  iintro ⟨Hoe, Hoa, HO⟩
  iapply (copyOut_row G T K c l 7 (by omega)) $$ [-]
  isplitr; · iexact Hc
  isplitl [HR]; · iexact HR
  isplitl [Hoi]; · iexact Hoi
  isplitl [Hoa]; · iexact Hoa
  iintro Hf
  iapply Hk
  isplitl [Hre Hoe HL]
  · isplitl [Hre]; · iexact Hre
    isplitl [Hoe]; · iexact Hoe
    iexact HL
  isplitl [Hf]; · iexact Hf
  iapply (owing_end' c (7 + 4 * (6 + 1) + l.val) (by omega)); iexact HO

theorem lasts_row (Kt : PUnit → sProp 𝕄) :
    iprop(ctx G T K ∗ B4 (fun l => lastIn c l) ∗ B4 (fun l => flying c l 6) ∗ owing c 35
        ∗ ((B4 (fun l => lastEnd T c l) ∗ B4 (fun l => flying c l 7) ∗ owing c 35) -∗ Kt ⟨⟩))
      ⊢ runs c (lasts c) Kt := by
  unfold lasts runs
  simp only [wp_bind]
  unfold B4
  iintro ⟨#Hc, ⟨Hi0, Hi1, Hi2, Hi3⟩, ⟨Hf0, Hf1, Hf2, Hf3⟩, HO, Hk⟩
  iapply (last_row G T K c 0) $$ [-]
  isplitr; · iexact Hc
  isplitl [Hi0]; · iexact Hi0
  isplitl [Hf0]; · iexact Hf0
  isplitl [HO]; · iexact HO
  iintro ⟨He0, Hf0, HO⟩
  iapply (last_row G T K c 1) $$ [-]
  isplitr; · iexact Hc
  isplitl [Hi1]; · iexact Hi1
  isplitl [Hf1]; · iexact Hf1
  isplitl [HO]; · iexact HO
  iintro ⟨He1, Hf1, HO⟩
  iapply (last_row G T K c 2) $$ [-]
  isplitr; · iexact Hc
  isplitl [Hi2]; · iexact Hi2
  isplitl [Hf2]; · iexact Hf2
  isplitl [HO]; · iexact HO
  iintro ⟨He2, Hf2, HO⟩
  iapply (last_row G T K c 3) $$ [-]
  isplitr; · iexact Hc
  isplitl [Hi3]; · iexact Hi3
  isplitl [Hf3]; · iexact Hf3
  isplitl [HO]; · iexact HO
  iintro ⟨He3, Hf3, HO⟩
  iapply Hk
  isplitl [He0 He1 He2 He3]
  · isplitl [He0]; · iexact He0
    isplitl [He1]; · iexact He1
    isplitl [He2]; · iexact He2
    iexact He3
  isplitl [Hf0 Hf1 Hf2 Hf3]
  · isplitl [Hf0]; · iexact Hf0
    isplitl [Hf1]; · iexact Hf1
    isplitl [Hf2]; · iexact Hf2
    iexact Hf3
  iexact HO

theorem drains_row (hs : s < 7) (Kt : PUnit → sProp 𝕄) :
    iprop(ctx G T K ∗ B4 (fun l => sent c l s) ∗ owing c 35 ∗ ((B4 (fun l => sentEnd T c l s) ∗ owing c 35) -∗ Kt ⟨⟩))
      ⊢ runs c (drains s) Kt := by
  unfold drains runs
  simp only [wp_bind]
  unfold B4
  iintro ⟨#Hc, ⟨Hi0, Hi1, Hi2, Hi3⟩, HO, Hk⟩
  iapply (waitSnd_row G T K c 0 s hs 35 (by omega)) $$ [-]
  isplitr; · iexact Hc
  isplitl [Hi0]; · iexact Hi0
  isplitl [HO]; · iexact HO
  iintro ⟨He0, HO⟩
  iapply (waitSnd_row G T K c 1 s hs 35 (by omega)) $$ [-]
  isplitr; · iexact Hc
  isplitl [Hi1]; · iexact Hi1
  isplitl [HO]; · iexact HO
  iintro ⟨He1, HO⟩
  iapply (waitSnd_row G T K c 2 s hs 35 (by omega)) $$ [-]
  isplitr; · iexact Hc
  isplitl [Hi2]; · iexact Hi2
  isplitl [HO]; · iexact HO
  iintro ⟨He2, HO⟩
  iapply (waitSnd_row G T K c 3 s hs 35 (by omega)) $$ [-]
  isplitr; · iexact Hc
  isplitl [Hi3]; · iexact Hi3
  isplitl [HO]; · iexact HO
  iintro ⟨He3, HO⟩
  iapply Hk
  isplitl [He0 He1 He2 He3]
  · isplitl [He0]; · iexact He0
    isplitl [He1]; · iexact He1
    isplitl [He2]; · iexact He2
    iexact He3
  iexact HO

end Cert.KernelIdeal.Wg

end
-- ==== Proof.KI.Meet.lean ====
/- The whole body on one device: what it takes and what it leaves. -/
module

public import proofs.«01_k».proof.Proof.KI.Lanes

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Values -/

/-- A tile from the row of the buffer it is in, and back. -/
def sq3 {α : Type} (v : S1x1024x256.Idx → α) : S1024x256.Idx → α := fun j => v (Shape.reshapeEquiv squeezes_S1x1024x256_S1024x256.numel_eq j)
def un3 {α : Type} (X : S1024x256.Idx → α) : S1x1024x256.Idx → α := fun i => X ((Shape.reshapeEquiv squeezes_S1x1024x256_S1024x256.numel_eq).symm i)
def sq4 {α : Type} (v : S1x1x1024x256.Idx → α) : S1024x256.Idx → α := fun j => v (Shape.reshapeEquiv squeezes_S1x1x1024x256_S1024x256.numel_eq j)
theorem un3_sq3 {α : Type} (v : S1x1024x256.Idx → α) : un3 (sq3 v) = v := funext fun i => congrArg v (Equiv.apply_symm_apply _ i)

theorem read_sT (l : Fin 4) (f : sM.view.ty.Contents (Elt F)) : (sT l).view.read (Elt F) f = sq3 ((sM.access (rectP l)).read (Elt F) f) := rfl
theorem read_rT (l : Fin 4) (f : rM.view.ty.Contents (Elt F)) : (rT l).view.read (Elt F) f = sq3 ((rM.access (rectP l)).read (Elt F) f) := rfl
theorem read_cT (l : Fin 4) (s : ℕ) (f : (cM l).view.ty.Contents (Elt F)) : (cT l s).view.read (Elt F) f = sq4 (((cM l).access (rectC l s)).read (Elt F) f) := rfl
theorem wrote_sT (l : Fin 4) (f : (sM.access (rectP l)).ty.Contents (Elt F)) (v : S1x1024x256.Idx → Elt F .bf16) :
    (sT l).view.read (Elt F) ((sM.access (rectP l)).write (Elt F) f v Finset.univ) = sq3 v :=
  (read_sT l _).trans (congrArg sq3 (View.read_write_univ (v := sM.access (rectP l)) f v))
theorem wrote_cT (l : Fin 4) (s : ℕ) (f : ((cM l).access (rectC l s)).ty.Contents (Elt F)) (v : S1x1x1024x256.Idx → Elt F .bf16) :
    (cT l s).view.read (Elt F) (((cM l).access (rectC l s)).write (Elt F) f v Finset.univ) = sq4 v :=
  (read_cT l s _).trans (congrArg sq4 (View.read_write_univ (v := (cM l).access (rectC l s)) f v))
theorem set_sT (l : Fin 4) : (sT l).view.set = (sM.access (rectP l)).set := View.set_reshape _ _
theorem set_rT (l : Fin 4) : (rT l).view.set = (rM.access (rectP l)).set := View.set_reshape _ _
theorem set_cT (l : Fin 4) (s : ℕ) : (cT l s).view.set = ((cM l).access (rectC l s)).set := View.set_reshape _ _

variable (G T : Dev nD → Fin 4 → S1024x256.Idx → Elt F .bf16) (K : GSem nD τ sig → ℕ) (c : Dev nD) (l : Fin 4)

/-! ## The handshake -/

def shakeIn : sProp 𝕄 :=
  iprop(cred (tallyAt (barC c) () 3) ∗ atPos ER (barC c) 0 ∅ 0
    ∗ (dutyTok ER (barC (par c)) 0 0 ∗ reached ER (barC (par c)) 0)
    ∗ (dutyTok ER (barC (rgt c)) 0 1 ∗ reached ER (barC (rgt c)) 0)
    ∗ (dutyTok ER (barC (lft c)) 0 2 ∗ reached ER (barC (lft c)) 0))
def shakeEnd : sProp 𝕄 := atPos ER (barC c) 1 ∅ 0

theorem pay_bar (e : Dev nD) (d : Fin 3) : (Rd G T).payload (barC e) 0 d = barPay e d := rfl
theorem barPay_par : barPay (F := F) (par c) 0 = readyX c := by show readyX (par (par c)) = _; rw [par_par]
theorem barPay_rgt : barPay (F := F) (rgt c) 1 = iprop(readyL c 1 ∗ readyL c 3) := by
  show iprop(readyL (lft (rgt c)) 1 ∗ readyL (lft (rgt c)) 3) = _; rw [lft_rgt]
theorem barPay_lft : barPay (F := F) (lft c) 2 = iprop(readyL c 0 ∗ readyL c 2) := by
  show iprop(readyL (rgt (lft c)) 0 ∗ readyL (rgt (lft c)) 2) = _; rw [rgt_lft]

theorem signal_one (e : Dev nD) :
    (semSignalWord e barrier0 1#32 : P (F := F) PUnit) = .op (.semSignal (e : Thread nD τ) barrier0 (1 : ℕ)) .ret := rfl
theorem wait_three : (semWaitWord barrier0 3#32 : P (F := F) PUnit) = .op (.semWait barrier0 (3 : ℕ)) .ret := rfl

set_option maxRecDepth 8192 in
/-- One signal of the handshake. -/
theorem signal_row (e : Dev nD) (d : Fin 3) (j : ℕ) (hj : j < 35) (hc : payC c j = barC e) (hn : payN j = 1) (Kt : PUnit → sProp 𝕄) :
    iprop(ctx G T K ∗ (dutyTok ER (barC e) 0 d ∗ reached ER (barC e) 0) ∗ barPay e d ∗ owing c j ∗ (owing c (j + 1) -∗ Kt ⟨⟩))
      ⊢ runs c (semSignalWord e barrier0 1#32) Kt := by
  rw [signal_one]
  unfold owing runs
  iintro ⟨#Hc, ⟨Ht, Hr⟩, Hp, ⟨%W, HO⟩, Hk⟩
  iapply (Rounds.wp_signal 𝒱₀ ER (Rd G T) (c : Thread nD τ) none (dst := (e : Thread nD τ)) (sem := barrier0) (r := 0) (d := d) (κ := K (barC e))
      (by rw [duties_bar]; exact Finset.mem_univ _) rfl () (owed c (j + 1)) ((owed_step c j hj).trans (by rw [hc, hn]; rfl)) (W := W)) $$ [Ht Hr Hp HO]
  · isplitr; · iapply (ctx_bar G T K e); iexact Hc
    isplitl [HO]; · iexact HO
    isplitl [Ht]; · iexact Ht
    isplitl [Hp]; · iapply (Entails.of_eq (pay_bar G T e d).symm); iexact Hp
    iexact Hr
  iintro HO
  rw [wp_ret]
  imodintro
  iapply Hk
  iexists _; iexact HO

set_option maxRecDepth 8192 in
theorem shake_row (Kt : PUnit → sProp 𝕄) :
    iprop(ctx G T K ∗ shakeIn c ∗ readyX c ∗ B4 (fun l => readyL c l) ∗ owing c 0
        ∗ ((shakeEnd c ∗ readyX (par c) ∗ B4 (fun l => readyL (nxt l c) l) ∗ owing c 3) -∗ Kt ⟨⟩))
      ⊢ runs c (handshake c) Kt := by
  unfold handshake runs
  rw [dev1_eq, dev2_eq, dev3_eq]
  simp only [wp_bind]
  unfold shakeIn shakeEnd B4
  iintro ⟨#Hc, ⟨Hcr, Hat, H1, H2, H3⟩, HX, ⟨HL0, HL1, HL2, HL3⟩, HO, Hk⟩
  iapply (signal_row G T K c (par c) 0 0 (by omega) rfl rfl) $$ [-]
  isplitr; · iexact Hc
  isplitl [H1]; · iexact H1
  isplitl [HX]; · iapply (Entails.of_eq (barPay_par c).symm); iexact HX
  isplitl [HO]; · iexact HO
  iintro HO
  iapply (signal_row G T K c (rgt c) 1 1 (by omega) rfl rfl) $$ [-]
  isplitr; · iexact Hc
  isplitl [H2]; · iexact H2
  isplitl [HL1 HL3]
  · iapply (Entails.of_eq (barPay_rgt c).symm)
    isplitl [HL1]; · iexact HL1
    iexact HL3
  isplitl [HO]; · iexact HO
  iintro HO
  iapply (signal_row G T K c (lft c) 2 2 (by omega) rfl rfl) $$ [-]
  isplitr; · iexact Hc
  isplitl [H3]; · iexact H3
  isplitl [HL0 HL2]
  · iapply (Entails.of_eq (barPay_lft c).symm)
    isplitl [HL0]; · iexact HL0
    iexact HL2
  isplitl [HO]; · iexact HO
  iintro HO
  ihave HO := (show owing c (2 + 1) ⊢ iprop(∃ W, owes (c : Thread nD τ) (owed c 3) W) from .rfl) $$ HO
  icases HO with ⟨%W, HO⟩
  rw [wait_three]
  iapply (Rounds.wp_wait_rest_token 𝒱₀ ER (Rd G T) (c : Thread nD τ) none (κ := K (barC c))
      (wpE_semWait_eq 𝒱₀ (c : Thread nD τ) none Set.univ) (Set.mem_univ _) () (O := owed c 3) (W := W) (R := 0) (m := 0) (T := ∅)
      (by rw [expect_bar])) $$ [Hcr HO Hat]
  · isplitr; · iapply (ctx_bar G T K c); iexact Hc
    isplitl [Hcr]; · iexact Hcr
    isplitl [HO]; · iexact HO
    isplitr
    · have e1 := mayWait (F := F) c (.reg barrier0) 3 1 (Nat.le_refl 1) (fun i h1 h2 => by split_ifs <;> omega)
      have e3 := (ctx_lev G T K).trans e1
      iapply e3
      iexact Hc
    iexact Hat
  iintro ⟨HO, Hat, Hr, Hpay⟩
  have e := rest_bar G T c
  ihave Hp := (Entails.of_eq e) $$ Hpay
  icases Hp with ⟨HX, ⟨HL1, HL3⟩, ⟨HL0, HL2⟩⟩
  rw [wp_ret]
  imodintro
  iapply Hk
  isplitl [Hat]; · iexact Hat
  isplitl [HX]; · iexact HX
  isplitl [HL0 HL1 HL2 HL3]
  · isplitl [HL0]; · iexact HL0
    isplitl [HL1]; · iexact HL1
    isplitl [HL2]; · iexact HL2
    iexact HL3
  unfold owing; iexists _; iexact HO

/-! ## The tiles for the partner -/

set_option maxRecDepth 8192 in
theorem place_row (v : FVec F S1x1024x256 .bf16) (hv : sq3 v = G c l) (Kt : PUnit → sProp 𝕄) :
    iprop(anyT c (sT l) ∗ (owns (c : Thread nD τ) (sT l) fullShare (G c l) -∗ Kt ⟨⟩)) ⊢ runs c (place l v) Kt := by
  unfold place runs
  simp only [wp_bind]
  unfold anyT
  iintro ⟨⟨%Y, H⟩, Hk⟩
  ihave H := (show owns (c : Thread nD τ) (sT l) fullShare Y ⊢ iprop(∃ f, ⌜(sT l).view.read (Elt F) f = Y⌝ ∗ ((sM.access (rectP l)).loc (c : Thread nD τ) ↦[(sT l).view.set]{fullShare} f)) from .rfl) $$ H
  icases H with ⟨%f, -, H⟩
  iapply (wp_load_rect 𝒱₀ (c : Thread nD τ) none Set.univ (m := sM) (r := rectP l) (S := (sT l).view.set) (q := fullShare) (f := f)
    (by rw [set_sT])) $$ H
  iintro H
  rw [wp_ret]
  imodintro
  iapply (wp_store 𝒱₀ (c : Thread nD τ) none Set.univ (m := sM) (r := rectP l) (S := (sT l).view.set) (f := f) (w := v) (Mk := Finset.univ)
    (by rw [set_sT, View.setOn_univ])) $$ H
  iintro H
  rw [wp_ret]
  imodintro
  iapply Hk
  have e : (sT l).view.read (Elt F) ((sM.access (rectP l)).write (Elt F) f v Finset.univ) = G c l :=
    (wrote_sT l f v).trans hv
  rw [← e]
  ihave H := (show ((sM.access (rectP l)).loc (c : Thread nD τ) ↦[(sT l).view.set]{fullShare} ((sM.access (rectP l)).write (Elt F) f v Finset.univ))
      ⊢ owns (c : Thread nD τ) (sT l) fullShare ((sT l).view.read (Elt F) ((sM.access (rectP l)).write (Elt F) f v Finset.univ))
    from owns_intro (c : Thread nD τ) (sT l) fullShare _) $$ H
  iexact H

def giveIn : sProp 𝕄 := iprop(dutyTok ER (xsC c l) 0 0 ∗ reached ER (xsC c l) 0 ∗ dutyTok ER (xrC (par c) l) 0 0)
def given : sProp 𝕄 := cred (tallyAt (xsC c l) () N)

/-- A tile sent to a device given. -/
def giveTo (e : Dev nD) : P (F := F) PUnit :=
  Prog.lift (.enqueueDma (sT l) (.remote (Dev.tc e) (rT l) (.dma (xsS l))) (.dma (xrS l)) (sT_words l) (rT_words l) ⟨⟨rfl, Or.inl rfl⟩, trivial⟩)
theorem give_eq : give c l = giveTo (F := F) l (par c) :=
  (show give c l = giveTo (F := F) l (ptn c l) from rfl).trans (by rw [ptn_eq c l])
theorem dmaPay_xs : dmaPay G T c 0 (.xs l) = owns (c : Thread nD τ) (sT l) fullShare (G c l) := rfl
theorem dmaPay_xr : dmaPay G T c 0 (.xr l) = owns (c : Thread nD τ) (rT l) fullShare (G (par c) l) := rfl

set_option maxRecDepth 8192 in
theorem give_row (Kt : PUnit → sProp 𝕄) :
    iprop(ctx G T K ∗ owns (c : Thread nD τ) (sT l) fullShare (G c l) ∗ giveIn c l
        ∗ (anyT (par c) (rT l) ∗ reached ER (xrC (par c) l) 0) ∗ owing c (3 + l.val)
        ∗ ((given c l ∗ owing c (3 + l.val + 1)) -∗ Kt ⟨⟩))
      ⊢ runs c (give c l) Kt := by
  have hl := l.isLt
  rw [give_eq c l]
  unfold giveTo giveIn given
  iintro ⟨#Hc, Hs, ⟨Ht, Hr, Ht'⟩, ⟨Hd, Hr'⟩, HO, Hk⟩
  iapply (there_row G T K c (par c) (xsS l) (xrS l) (.xs l) (.xr l) (kind_xs l) rfl (kind_xr l) rfl
    (3 + l.val) (by omega) (payC_xr c l) (payN_xr l) (sT l) (rT l) (sT_words l) (rT_words l) _ _
    (credit_rT l) fullShare (G c l) .rfl (by rw [dmaPay_xr, par_par])) $$ [-]
  isplitr; · iexact Hc
  isplitl [Hs]; · iexact Hs
  isplitl [Hd]; · iexact Hd
  isplitl [Ht]; · iexact Ht
  isplitl [Hr]; · iexact Hr
  isplitl [Ht']; · iexact Ht'
  isplitl [Hr']; · iexact Hr'
  isplitl [HO]; · iexact HO
  iintro ⟨Hcr, HO⟩
  iapply Hk
  isplitl [Hcr]; · iexact Hcr
  iexact HO

/-! ## The meeting of the two -/

def meetIn : sProp 𝕄 :=
  iprop(atPos ER (xsC c l) 0 ∅ 0 ∗ (cred (tallyAt (xrC c l) () N) ∗ atPos ER (xrC c l) 0 ∅ 0) ∗ anyT c (cT l 0) ∗ passIn c l 0 ∗ outIn c l 0 ∗ outAt c l 0)
def meetEnd : sProp 𝕄 :=
  iprop((owns (c : Thread nD τ) (sT l) fullShare (G c l) ∗ owns (c : Thread nD τ) (rT l) fullShare (G (par c) l))
    ∗ atPos ER (xsC c l) 1 ∅ 0 ∗ atPos ER (xrC c l) 1 ∅ 0)

set_option maxRecDepth 8192 in
theorem meet_row (pay : Vec F S1x1024x256 .bf16 → FVec F S1x1x1024x256 .bf16) (hpay : sq4 (pay (un3 (G (par c) l))) = T c l) (Kt : PUnit → sProp 𝕄) :
    iprop(ctx G T K ∗ meetIn c l ∗ given c l ∗ dest c l 0 ∗ owing c (7 + l.val)
        ∗ ((meetEnd G c l ∗ sent c l 0 ∗ flying c l 0 ∗ owing c (7 + l.val + 1)) -∗ Kt ⟨⟩))
      ⊢ runs c (meet c l pay) Kt := by
  have hl := l.isLt
  unfold meet runs
  simp only [wp_bind]
  unfold meetIn meetEnd given
  iintro ⟨#Hc, ⟨Has, ⟨Hcr, Har⟩, Hs, Hpi, Hoi, Hoa⟩, Hcs, Hd, HO, Hk⟩
  iapply (wait_row G T K c (xsS l) 0 (.xs l) (kind_xs l) rfl (7 + l.val)
    (fun i h1 h2 => by show 0 < _; split_ifs <;> omega) (rT l) (sT l) (rT_words l) (sT_words l) (credit_sT l)) $$ [-]
  isplitr; · iexact Hc
  isplitl [Hcs]; · iexact Hcs
  isplitl [Has]; · iexact Has
  isplitl [HO]; · iexact HO
  iintro ⟨Hps, Has, -, HO⟩
  iapply (wait_row G T K c (xrS l) 0 (.xr l) (kind_xr l) rfl (7 + l.val)
    (fun i h1 h2 => by show 2 < _; split_ifs <;> omega) (sT l) (rT l) (sT_words l) (rT_words l) (credit_rT l)) $$ [-]
  isplitr; · iexact Hc
  isplitl [Hcr]; · iexact Hcr
  isplitl [Har]; · iexact Har
  isplitl [HO]; · iexact HO
  iintro ⟨Hpr, Har, -, HO⟩
  ihave Hps := (Entails.of_eq (dmaPay_xs G T c l)) $$ Hps
  ihave Hpr := (Entails.of_eq (dmaPay_xr G T c l)) $$ Hpr
  ihave Hpr := (show owns (c : Thread nD τ) (rT l) fullShare (G (par c) l) ⊢ iprop(∃ f, ⌜(rT l).view.read (Elt F) f = G (par c) l⌝ ∗ ((rM.access (rectP l)).loc (c : Thread nD τ) ↦[(rT l).view.set]{fullShare} f)) from .rfl) $$ Hpr
  icases Hpr with ⟨%f, %hf, Hpr⟩
  iapply (wp_load_rect 𝒱₀ (c : Thread nD τ) none Set.univ (m := rM) (r := rectP l) (S := (rT l).view.set) (q := fullShare) (f := f)
    (by rw [set_rT])) $$ Hpr
  iintro Hpr
  rw [wp_ret]
  imodintro
  ihave Hs := (show anyT c (cT l 0) ⊢ iprop(∃ Y, ∃ g, ⌜(cT l 0).view.read (Elt F) g = Y⌝ ∗ (((cM l).access (rectC l 0)).loc (c : Thread nD τ) ↦[(cT l 0).view.set]{fullShare} g)) from .rfl) $$ Hs
  icases Hs with ⟨%Y, %g, -, Hs⟩
  iapply (wp_load_rect 𝒱₀ (c : Thread nD τ) none Set.univ (m := cM l) (r := rectC l 0) (S := (cT l 0).view.set) (q := fullShare) (f := g)
    (by rw [set_cT])) $$ Hs
  iintro Hs
  rw [wp_ret]
  imodintro
  iapply (wp_store 𝒱₀ (c : Thread nD τ) none Set.univ (m := cM l) (r := rectC l 0) (S := (cT l 0).view.set) (f := g)
    (w := pay ((rM.access (rectP l)).read (Elt F) f)) (Mk := Finset.univ) (by rw [set_cT, View.setOn_univ])) $$ Hs
  iintro Hs
  rw [wp_ret]
  imodintro
  have e : (cT l 0).view.read (Elt F) (((cM l).access (rectC l 0)).write (Elt F) g (pay ((rM.access (rectP l)).read (Elt F) f)) Finset.univ)
      = T (org c l 0) l :=
    (wrote_cT l 0 g _).trans (by rw [org_zero, ← hpay, ← hf, show (rT l).view.read (Elt F) f = sq3 ((rM.access (rectP l)).read (Elt F) f) from rfl, un3_sq3])
  ihave Hs := (show (((cM l).access (rectC l 0)).loc (c : Thread nD τ) ↦[(cT l 0).view.set]{fullShare}
        (((cM l).access (rectC l 0)).write (Elt F) g (pay ((rM.access (rectP l)).read (Elt F) f)) Finset.univ)) ⊢ slotAt T fullShare c l 0
    from by unfold slotAt; rw [← e]; exact owns_intro (c : Thread nD τ) (cT l 0) fullShare _) $$ Hs
  ihave Hs := (slot_halves T c l 0) $$ Hs
  icases Hs with ⟨HL, HR⟩
  iapply (pass_row G T K c l 0 (by omega)) $$ [-]
  isplitr; · iexact Hc
  isplitl [HL]; · iexact HL
  isplitl [Hpi]; · iexact Hpi
  isplitl [Hd]; · iexact Hd
  isplitl [HO]; · iexact HO
  iintro ⟨Hse, HO⟩
  iapply (copyOut_row G T K c l 0 (by omega)) $$ [-]
  isplitr; · iexact Hc
  isplitl [HR]; · iexact HR
  isplitl [Hoi]; · iexact Hoi
  isplitl [Hoa]; · iexact Hoa
  iintro Hf
  iapply Hk
  isplitl [Hps Hpr Has Har]
  · isplitl [Hps Hpr]
    · isplitl [Hps]; · iexact Hps
      rw [← hf]
      ihave Hpr := (show ((rM.access (rectP l)).loc (c : Thread nD τ) ↦[(rT l).view.set]{fullShare} f)
          ⊢ owns (c : Thread nD τ) (rT l) fullShare ((rT l).view.read (Elt F) f) from owns_intro (c : Thread nD τ) (rT l) fullShare f) $$ Hpr
      iexact Hpr
    isplitl [Has]; · iexact Has
    iexact Har
  isplitl [Hse]; · iexact Hse
  isplitl [Hf]; · iexact Hf
  iexact HO

/-! ## The ring and the drain -/

theorem list6 (Φ : ℕ → sProp 𝕄) : (BI.bigSep Finset.univ fun s : Fin 6 => Φ s.val) = iprop(Φ 0 ∗ Φ 1 ∗ Φ 2 ∗ Φ 3 ∗ Φ 4 ∗ Φ 5) :=
  (BI.bigSep_univ_eq_bigSepL [0, 1, 2, 3, 4, 5] (by decide) (by decide) _).trans rfl
theorem list7 (Φ : ℕ → sProp 𝕄) : (BI.bigSep Finset.univ fun s : Fin 7 => Φ s.val) = iprop(Φ 0 ∗ Φ 1 ∗ Φ 2 ∗ Φ 3 ∗ Φ 4 ∗ Φ 5 ∗ Φ 6) :=
  (BI.bigSep_univ_eq_bigSepL [0, 1, 2, 3, 4, 5, 6] (by decide) (by decide) _).trans rfl

theorem ring_row (Kt : PUnit → sProp 𝕄) :
    iprop(ctx G T K ∗ (BI.bigSep Finset.univ fun s : Fin 6 => B4 (fun l => hopIn c l s.val))
        ∗ (BI.bigSep Finset.univ fun s : Fin 6 => B4 (fun l => dest c l (s.val + 1)))
        ∗ B4 (fun l => flying c l 0) ∗ owing c 11
        ∗ (((BI.bigSep Finset.univ fun s : Fin 6 => B4 (fun l => hopEnd T c l s.val)) ∗ B4 (fun l => flying c l 6) ∗ owing c 35) -∗ Kt ⟨⟩))
      ⊢ runs c (ring c) Kt := by
  rw [list6 (fun s => B4 (fun l => hopIn c l s)), list6 (fun s => B4 (fun l => dest c l (s + 1))), list6 (fun s => B4 (fun l => hopEnd T c l s))]
  unfold ring runs
  simp only [wp_bind]
  iintro ⟨#Hc, ⟨H0, H1, H2, H3, H4, H5⟩, ⟨D0, D1, D2, D3, D4, D5⟩, Hf, HO, Hk⟩
  iapply (hops_row G T K c 0 (by omega) 11 rfl) $$ [-]
  isplitr; · iexact Hc
  isplitl [H0]; · iexact H0
  isplitl [D0]; · iexact D0
  isplitl [Hf]; · iexact Hf
  isplitl [HO]; · iexact HO
  iintro ⟨E0, Hf, HO⟩
  iapply (hops_row G T K c 1 (by omega) 15 rfl) $$ [-]
  isplitr; · iexact Hc
  isplitl [H1]; · iexact H1
  isplitl [D1]; · iexact D1
  isplitl [Hf]; · iexact Hf
  isplitl [HO]; · iexact HO
  iintro ⟨E1, Hf, HO⟩
  iapply (hops_row G T K c 2 (by omega) 19 rfl) $$ [-]
  isplitr; · iexact Hc
  isplitl [H2]; · iexact H2
  isplitl [D2]; · iexact D2
  isplitl [Hf]; · iexact Hf
  isplitl [HO]; · iexact HO
  iintro ⟨E2, Hf, HO⟩
  iapply (hops_row G T K c 3 (by omega) 23 rfl) $$ [-]
  isplitr; · iexact Hc
  isplitl [H3]; · iexact H3
  isplitl [D3]; · iexact D3
  isplitl [Hf]; · iexact Hf
  isplitl [HO]; · iexact HO
  iintro ⟨E3, Hf, HO⟩
  iapply (hops_row G T K c 4 (by omega) 27 rfl) $$ [-]
  isplitr; · iexact Hc
  isplitl [H4]; · iexact H4
  isplitl [D4]; · iexact D4
  isplitl [Hf]; · iexact Hf
  isplitl [HO]; · iexact HO
  iintro ⟨E4, Hf, HO⟩
  iapply (hops_row G T K c 5 (by omega) 31 rfl) $$ [-]
  isplitr; · iexact Hc
  isplitl [H5]; · iexact H5
  isplitl [D5]; · iexact D5
  isplitl [Hf]; · iexact Hf
  isplitl [HO]; · iexact HO
  iintro ⟨E5, Hf, HO⟩
  iapply Hk
  isplitl [E0 E1 E2 E3 E4 E5]
  · isplitl [E0]; · iexact E0
    isplitl [E1]; · iexact E1
    isplitl [E2]; · iexact E2
    isplitl [E3]; · iexact E3
    isplitl [E4]; · iexact E4
    iexact E5
  isplitl [Hf]; · iexact Hf
  iexact HO

def overEnd : sProp 𝕄 := iprop(outEnd T c l 7 ∗ outAt c l 8)

theorem drain_row (Kt : PUnit → sProp 𝕄) :
    iprop(ctx G T K ∗ (BI.bigSep Finset.univ fun s : Fin 7 => B4 (fun l => sent c l s.val)) ∗ B4 (fun l => flying c l 7) ∗ owing c 35
        ∗ (((BI.bigSep Finset.univ fun s : Fin 7 => B4 (fun l => sentEnd T c l s.val)) ∗ B4 (fun l => overEnd T c l) ∗ owing c 35) -∗ Kt ⟨⟩))
      ⊢ runs c (drain c) Kt := by
  rw [list7 (fun s => B4 (fun l => sent c l s)), list7 (fun s => B4 (fun l => sentEnd T c l s))]
  unfold drain runs
  simp only [wp_bind]
  iintro ⟨#Hc, ⟨H0, H1, H2, H3, H4, H5, H6⟩, Hf, HO, Hk⟩
  iapply (drains_row G T K c 0 (by omega)) $$ [-]
  isplitr; · iexact Hc
  isplitl [H0]; · iexact H0
  isplitl [HO]; · iexact HO
  iintro ⟨E0, HO⟩
  iapply (drains_row G T K c 1 (by omega)) $$ [-]
  isplitr; · iexact Hc
  isplitl [H1]; · iexact H1
  isplitl [HO]; · iexact HO
  iintro ⟨E1, HO⟩
  iapply (drains_row G T K c 2 (by omega)) $$ [-]
  isplitr; · iexact Hc
  isplitl [H2]; · iexact H2
  isplitl [HO]; · iexact HO
  iintro ⟨E2, HO⟩
  iapply (drains_row G T K c 3 (by omega)) $$ [-]
  isplitr; · iexact Hc
  isplitl [H3]; · iexact H3
  isplitl [HO]; · iexact HO
  iintro ⟨E3, HO⟩
  iapply (drains_row G T K c 4 (by omega)) $$ [-]
  isplitr; · iexact Hc
  isplitl [H4]; · iexact H4
  isplitl [HO]; · iexact HO
  iintro ⟨E4, HO⟩
  iapply (drains_row G T K c 5 (by omega)) $$ [-]
  isplitr; · iexact Hc
  isplitl [H5]; · iexact H5
  isplitl [HO]; · iexact HO
  iintro ⟨E5, HO⟩
  iapply (drains_row G T K c 6 (by omega)) $$ [-]
  isplitr; · iexact Hc
  isplitl [H6]; · iexact H6
  isplitl [HO]; · iexact HO
  iintro ⟨E6, HO⟩
  unfold B4
  icases Hf with ⟨F0, F1, F2, F3⟩
  iapply (waitOut_row G T K c 0 7 (by omega) 35 (by omega)) $$ [-]
  isplitr; · iexact Hc
  isplitl [F0]; · iexact F0
  isplitl [HO]; · iexact HO
  iintro ⟨A0, B0, HO⟩
  iapply (waitOut_row G T K c 1 7 (by omega) 35 (by omega)) $$ [-]
  isplitr; · iexact Hc
  isplitl [F1]; · iexact F1
  isplitl [HO]; · iexact HO
  iintro ⟨A1, B1, HO⟩
  iapply (waitOut_row G T K c 2 7 (by omega) 35 (by omega)) $$ [-]
  isplitr; · iexact Hc
  isplitl [F2]; · iexact F2
  isplitl [HO]; · iexact HO
  iintro ⟨A2, B2, HO⟩
  iapply (waitOut_row G T K c 3 7 (by omega) 35 (by omega)) $$ [-]
  isplitr; · iexact Hc
  isplitl [F3]; · iexact F3
  isplitl [HO]; · iexact HO
  iintro ⟨A3, B3, HO⟩
  iapply Hk
  isplitl [E0 E1 E2 E3 E4 E5 E6]
  · isplitl [E0]; · iexact E0
    isplitl [E1]; · iexact E1
    isplitl [E2]; · iexact E2
    isplitl [E3]; · iexact E3
    isplitl [E4]; · iexact E4
    isplitl [E5]; · iexact E5
    iexact E6
  isplitl [A0 A1 A2 A3 B0 B1 B2 B3]
  · unfold overEnd
    isplitl [A0 B0]
    · isplitl [A0]; · iexact A0
      iexact B0
    isplitl [A1 B1]
    · isplitl [A1]; · iexact A1
      iexact B1
    isplitl [A2 B2]
    · isplitl [A2]; · iexact A2
      iexact B2
    isplitl [A3]; · iexact A3
    iexact B3
  iexact HO

end Cert.KernelIdeal.Wg

end
-- ==== Proof.KI.Body.lean ====
/- The body on one device, from what it is given to what it gives back. -/
module

public import proofs.«01_k».proof.Proof.KI.Meet

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Four lanes at a time -/

theorem bs {I : Type} (s : Finset I) (Φ Ψ : I → sProp 𝕄) : BI.bigSep s (fun i => iprop(Φ i ∗ Ψ i)) = iprop(BI.bigSep s Φ ∗ BI.bigSep s Ψ) :=
  BI.bigSep_sep s Φ Ψ
theorem B4_out (Φ : Fin 4 → sProp 𝕄) : B4 Φ ⊢ iprop(Φ 0 ∗ Φ 1 ∗ Φ 2 ∗ Φ 3) := .rfl
theorem B4_in (Φ : Fin 4 → sProp 𝕄) : iprop(Φ 0 ∗ Φ 1 ∗ Φ 2 ∗ Φ 3) ⊢ B4 Φ := .rfl
theorem B4_eq (Φ : Fin 4 → sProp 𝕄) : B4 Φ = BI.bigSep Finset.univ Φ :=
  ((BI.bigSep_univ_eq_bigSepL [0, 1, 2, 3] (by decide) (by decide) Φ).trans rfl).symm
theorem B4_sep (Φ Ψ : Fin 4 → sProp 𝕄) : B4 (fun l => iprop(Φ l ∗ Ψ l)) = iprop(B4 Φ ∗ B4 Ψ) := by
  rw [B4_eq, B4_eq, B4_eq, bs]
theorem B4_swap {n : ℕ} (Φ : Fin 4 → Fin n → sProp 𝕄) :
    B4 (fun l => BI.bigSep Finset.univ (Φ l)) = BI.bigSep Finset.univ fun s => B4 fun l => Φ l s := by
  unfold B4
  rw [bs, bs, bs]

/-! ## What the tiles carry -/

abbrev rectY : Rect S2048x1024 := Rect.unit (s := S2048x1024) ![0, 0] S2048x1024.size inb_S2048x1024_S2048x1024_0_0
abbrev rectX1 (d : Dev nD) : Rect S2048x2048 := Rect.unit (s := S2048x2048) (k0_off1 d) S2048x1024.size (k0_off1_inb d)
abbrev rectX2 (d : Dev nD) : Rect S2048x2048 := Rect.unit (s := S2048x2048) (k0_off2 d) S2048x1024.size (k0_off2_inb d)

def payP : Fin 4 → Vec F S2048x1024 .bf16 → Vec F S2048x1024 .bf16 → FVec F S1x1024x256 .bf16
  | 0 => k0_pay3
  | 1 => k0_pay4
  | 2 => k0_pay5
  | 3 => k0_pay6
def payM : Fin 4 → FVec F S1024x1024 .f32 → Vec F S1x1024x256 .bf16 → FVec F S1x1x1024x256 .bf16
  | 0 => k0_pay8
  | 1 => k0_pay9
  | 2 => k0_pay10
  | 3 => fun w v => k0_pay12 (k0_pay11 w v)

/- A device's block of the first operand, and its columns of the second. -/
variable (A : Dev nD → S2048x2048.Idx → Elt F .bf16) (B : Dev nD → S2048x1024.Idx → Elt F .bf16)

def yv (c : Dev nD) : Vec F S2048x1024 .bf16 := fun i => B c (rectY.emb i)
def xo (c : Dev nD) : Vec F S2048x1024 .bf16 := fun i => A c ((rectX1 c).emb i)
def xm (c : Dev nD) : Vec F S2048x1024 .bf16 := fun i => A c ((rectX2 c).emb i)
/-- A device's tile for its partner, -/
def Gv (c : Dev nD) (l : Fin 4) : S1024x256.Idx → Elt F .bf16 := sq3 (payP l (yv B c) (xo A c))
/-- and its own sums. -/
def Tv (c : Dev nD) (l : Fin 4) : S1024x256.Idx → Elt F .bf16 := sq4 (payM l (k0_pay7 (k0_pay1 (yv B c)) (xm A c)) (un3 (Gv A B (par c) l)))

/-! ## The body -/

def bodyIn (c : Dev nD) : sProp 𝕄 :=
  iprop(shakeIn c ∗ readyX c ∗ B4 (fun l => readyL c l) ∗ B4 (fun l => anyT c (sT l)) ∗ B4 (fun l => giveIn c l) ∗ B4 (fun l => meetIn c l)
    ∗ (BI.bigSep Finset.univ fun s : Fin 6 => B4 (fun l => hopIn c l s.val)) ∗ B4 (fun l => lastIn c l))
def bodyEnd (G T : Dev nD → Fin 4 → S1024x256.Idx → Elt F .bf16) (c : Dev nD) : sProp 𝕄 :=
  iprop(shakeEnd c ∗ B4 (fun l => meetEnd G c l)
    ∗ (BI.bigSep Finset.univ fun s : Fin 6 => B4 (fun l => rcvEnd c l s.val)) ∗ (BI.bigSep Finset.univ fun s : Fin 6 => B4 (fun l => outEnd T c l s.val))
    ∗ B4 (fun l => lastEnd T c l)
    ∗ (BI.bigSep Finset.univ fun s : Fin 7 => B4 (fun l => sentEnd T c l s.val)) ∗ B4 (fun l => overEnd T c l))

variable (K : GSem nD τ sig → ℕ) (c : Dev nD)

set_option maxRecDepth 8192 in
/-- A load of part of a tile held whole. -/
theorem load_row {s : Shape} {e : EltTy} (M : Memref sig .tc .vmem s e) (r : Rect s) (hl : M.view.LoadsAt r.toLoadRect) (X : s.Idx → Elt F e)
    (Kt : (r.shape.Idx → Elt F e) → sProp 𝕄) :
    iprop(owns (c : Thread nD τ) M fullShare X ∗ (owns (c : Thread nD τ) M fullShare X -∗ Kt (fun i => X (r.emb i))))
      ⊢ wp frame (wpE (defs₀ (F := F)) 𝒱₀ (c : Thread nD τ) none) Set.univ (Prog.lift (.load M r.toLoadRect hl)) Kt := by
  iintro ⟨H, Hk⟩
  ihave H := (show owns (c : Thread nD τ) M fullShare X ⊢ iprop(∃ f : M.view.ty.Contents (Elt F), ⌜M.view.read (Elt F) f = X⌝ ∗ ((M.access r).loc (c : Thread nD τ) ↦[M.view.set]{fullShare} f)) from .rfl) $$ H
  icases H with ⟨%f, %hf, H⟩
  iapply (wp_load_rect 𝒱₀ (c : Thread nD τ) none Set.univ (m := M) (r := r) (S := M.view.set) (q := fullShare) (f := f)
    (View.set_slice_subset _ r)) $$ H
  iintro H
  rw [wp_ret]
  imodintro
  subst hf
  ihave Hk := (show iprop(owns (c : Thread nD τ) M fullShare (M.view.read (Elt F) f) -∗ Kt (fun i => M.view.read (Elt F) f (r.emb i)))
    ⊢ iprop(owns (c : Thread nD τ) M fullShare (M.view.read (Elt F) f) -∗ Kt ((M.access r).read (Elt F) f)) from .rfl) $$ Hk
  iapply Hk
  ihave H := (show ((M.access r).loc (c : Thread nD τ) ↦[M.view.set]{fullShare} f) ⊢ owns (c : Thread nD τ) M fullShare (M.view.read (Elt F) f)
    from owns_intro (c : Thread nD τ) M fullShare f) $$ H
  iexact H

theorem readyX_list (d : Dev nD) : readyX (F := F) d = B4 (fun l => iprop(anyT d (rT l) ∗ reached ER (xrC d l) 0)) := (B4_eq _).symm
theorem dests : B4 (fun l => readyL (F := F) (nxt l c) l)
    = iprop(B4 (fun l => dest c l 0) ∗ BI.bigSep Finset.univ fun s : Fin 6 => B4 (fun l => dest c l (s.val + 1))) := by
  rw [list6 (fun s => B4 fun l => dest c l (s + 1)), ← list7 (fun s => B4 fun l => dest c l s)]
  exact B4_swap (fun l (s : Fin 7) => dest c l s.val)
theorem hopEnds (T : Dev nD → Fin 4 → S1024x256.Idx → Elt F .bf16) :
    (BI.bigSep Finset.univ fun s : Fin 6 => B4 (fun l => hopEnd T c l s.val))
      = iprop((BI.bigSep Finset.univ fun s : Fin 6 => B4 (fun l => rcvEnd c l s.val)) ∗ (BI.bigSep Finset.univ fun s : Fin 6 => B4 (fun l => sent c l (s.val + 1)))
          ∗ (BI.bigSep Finset.univ fun s : Fin 6 => B4 (fun l => outEnd T c l s.val))) := by
  rw [← bs, ← bs]
  refine congrArg (BI.bigSep Finset.univ) (funext fun s => ?_)
  rw [← B4_sep, ← B4_sep]; rfl
theorem sents : iprop(B4 (fun l => sent (F := F) c l 0) ∗ BI.bigSep Finset.univ fun s : Fin 6 => B4 (fun l => sent c l (s.val + 1)))
    = (BI.bigSep Finset.univ fun s : Fin 7 => B4 (fun l => sent c l s.val)) := by
  rw [list6 (fun s => B4 fun l => sent c l (s + 1)), list7 (fun s => B4 fun l => sent c l s)]

local notation "𝔾" => Gv A B
local notation "𝕋" => Tv A B

theorem body_row (A0 : Memref sig .tc .vmem S2048x2048 .bf16) (A1 : Memref sig .tc .vmem S2048x1024 .bf16) (Kt : PUnit → sProp 𝕄) :
    iprop(ctx 𝔾 𝕋 K ∗ bodyIn c ∗ owns (c : Thread nD τ) A0 fullShare (A c) ∗ owns (c : Thread nD τ) A1 fullShare (B c) ∗ owing c 0
        ∗ ((bodyEnd 𝔾 𝕋 c ∗ owns (c : Thread nD τ) A0 fullShare (A c) ∗ owns (c : Thread nD τ) A1 fullShare (B c) ∗ owing c 35) -∗ Kt ⟨⟩))
      ⊢ runs c (body A0 A1) Kt := by
  unfold body runs
  simp only [wp_bind]
  unfold bodyIn bodyEnd
  iintro ⟨#Hc, ⟨Hsh, HX, HL, Hpl, Hgi, Hme, Hho, Hla⟩, HA, HB, HO, Hk⟩
  rw [show (Prog.lift .deviceId : Prog (TpuEff nD τ sig (Elt F) Λ₀ .tc) (Dev nD)) = .op .deviceId .ret from rfl, wp_deviceId, wp_ret]
  imodintro
  iapply (shake_row 𝔾 𝕋 K c) $$ [-]
  isplitr; · iexact Hc
  isplitl [Hsh]; · iexact Hsh
  isplitl [HX]; · iexact HX
  isplitl [HL]; · iexact HL
  isplitl [HO]; · iexact HO
  iintro ⟨Hsh, HX, HL, HO⟩
  ihave HX := (Entails.of_eq (readyX_list (par c))) $$ HX
  ihave HL := (Entails.of_eq (dests c)) $$ HL
  icases HL with ⟨HD, HDs⟩
  iapply (load_row c A1 rectY _ (B c)) $$ [-]
  isplitl [HB]; · iexact HB
  iintro HB
  iapply (load_row c A0 (rectX1 c) _ (A c)) $$ [-]
  isplitl [HA]; · iexact HA
  iintro HA
  ihave Hpl := (B4_out (fun l => anyT c (sT l))) $$ Hpl
  icases Hpl with ⟨P0, P1, P2, P3⟩
  ihave Hgi := (B4_out (fun l => giveIn c l)) $$ Hgi
  icases Hgi with ⟨I0, I1, I2, I3⟩
  ihave HX := (B4_out (fun l => iprop(anyT (par c) (rT l) ∗ reached ER (xrC (par c) l) 0))) $$ HX
  icases HX with ⟨X0, X1, X2, X3⟩
  ihave Hme := (B4_out (fun l => meetIn c l)) $$ Hme
  icases Hme with ⟨M0, M1, M2, M3⟩
  ihave HD := (B4_out (fun l => dest c l 0)) $$ HD
  icases HD with ⟨D0, D1, D2, D3⟩
  iapply (place_row 𝔾 c 0 _ (rfl : sq3 (payP 0 (yv B c) (xo A c)) = 𝔾 c 0)) $$ [-]
  isplitl [P0]; · iexact P0
  iintro P0
  iapply (place_row 𝔾 c 1 _ (rfl : sq3 (payP 1 (yv B c) (xo A c)) = 𝔾 c 1)) $$ [-]
  isplitl [P1]; · iexact P1
  iintro P1
  iapply (place_row 𝔾 c 2 _ (rfl : sq3 (payP 2 (yv B c) (xo A c)) = 𝔾 c 2)) $$ [-]
  isplitl [P2]; · iexact P2
  iintro P2
  iapply (place_row 𝔾 c 3 _ (rfl : sq3 (payP 3 (yv B c) (xo A c)) = 𝔾 c 3)) $$ [-]
  isplitl [P3]; · iexact P3
  iintro P3
  iapply (give_row 𝔾 𝕋 K c 0) $$ [-]
  isplitr; · iexact Hc
  isplitl [P0]; · iexact P0
  isplitl [I0]; · iexact I0
  isplitl [X0]; · iexact X0
  isplitl [HO]; · iexact HO
  iintro ⟨I0, HO⟩
  iapply (give_row 𝔾 𝕋 K c 1) $$ [-]
  isplitr; · iexact Hc
  isplitl [P1]; · iexact P1
  isplitl [I1]; · iexact I1
  isplitl [X1]; · iexact X1
  isplitl [HO]; · iexact HO
  iintro ⟨I1, HO⟩
  iapply (give_row 𝔾 𝕋 K c 2) $$ [-]
  isplitr; · iexact Hc
  isplitl [P2]; · iexact P2
  isplitl [I2]; · iexact I2
  isplitl [X2]; · iexact X2
  isplitl [HO]; · iexact HO
  iintro ⟨I2, HO⟩
  iapply (give_row 𝔾 𝕋 K c 3) $$ [-]
  isplitr; · iexact Hc
  isplitl [P3]; · iexact P3
  isplitl [I3]; · iexact I3
  isplitl [X3]; · iexact X3
  isplitl [HO]; · iexact HO
  iintro ⟨I3, HO⟩
  iapply (load_row c A0 (rectX2 c) _ (A c)) $$ [-]
  isplitl [HA]; · iexact HA
  iintro HA
  iapply (meet_row 𝔾 𝕋 K c 0 _ (rfl : sq4 (payM 0 (k0_pay7 (k0_pay1 (yv B c)) (xm A c)) (un3 (𝔾 (par c) 0))) = 𝕋 c 0)) $$ [-]
  isplitr; · iexact Hc
  isplitl [M0]; · iexact M0
  isplitl [I0]; · iexact I0
  isplitl [D0]; · iexact D0
  isplitl [HO]; · iexact HO
  iintro ⟨M0, S0, F0, HO⟩
  iapply (meet_row 𝔾 𝕋 K c 1 _ (rfl : sq4 (payM 1 (k0_pay7 (k0_pay1 (yv B c)) (xm A c)) (un3 (𝔾 (par c) 1))) = 𝕋 c 1)) $$ [-]
  isplitr; · iexact Hc
  isplitl [M1]; · iexact M1
  isplitl [I1]; · iexact I1
  isplitl [D1]; · iexact D1
  isplitl [HO]; · iexact HO
  iintro ⟨M1, S1, F1, HO⟩
  iapply (meet_row 𝔾 𝕋 K c 2 _ (rfl : sq4 (payM 2 (k0_pay7 (k0_pay1 (yv B c)) (xm A c)) (un3 (𝔾 (par c) 2))) = 𝕋 c 2)) $$ [-]
  isplitr; · iexact Hc
  isplitl [M2]; · iexact M2
  isplitl [I2]; · iexact I2
  isplitl [D2]; · iexact D2
  isplitl [HO]; · iexact HO
  iintro ⟨M2, S2, F2, HO⟩
  iapply (meet_row 𝔾 𝕋 K c 3 _ (rfl : sq4 (payM 3 (k0_pay7 (k0_pay1 (yv B c)) (xm A c)) (un3 (𝔾 (par c) 3))) = 𝕋 c 3)) $$ [-]
  isplitr; · iexact Hc
  isplitl [M3]; · iexact M3
  isplitl [I3]; · iexact I3
  isplitl [D3]; · iexact D3
  isplitl [HO]; · iexact HO
  iintro ⟨M3, S3, F3, HO⟩
  iapply (ring_row 𝔾 𝕋 K c) $$ [-]
  isplitr; · iexact Hc
  isplitl [Hho]; · iexact Hho
  isplitl [HDs]; · iexact HDs
  isplitl [F0 F1 F2 F3]
  · iapply (B4_in (fun l => flying c l 0))
    isplitl [F0]; · iexact F0
    isplitl [F1]; · iexact F1
    isplitl [F2]; · iexact F2
    iexact F3
  isplitl [HO]; · iexact HO
  iintro ⟨Hh, Hf, HO⟩
  iapply (lasts_row 𝔾 𝕋 K c) $$ [-]
  isplitr; · iexact Hc
  isplitl [Hla]; · iexact Hla
  isplitl [Hf]; · iexact Hf
  isplitl [HO]; · iexact HO
  iintro ⟨Hla, Hf, HO⟩
  ihave Hh := (Entails.of_eq (hopEnds c 𝕋)) $$ Hh
  icases Hh with ⟨Hr, Hs, Ho⟩
  iapply (drain_row 𝔾 𝕋 K c) $$ [-]
  isplitr; · iexact Hc
  isplitl [S0 S1 S2 S3 Hs]
  · iapply (Entails.of_eq (sents c))
    isplitl [S0 S1 S2 S3]
    · iapply (B4_in (fun l => sent c l 0))
      isplitl [S0]; · iexact S0
      isplitl [S1]; · iexact S1
      isplitl [S2]; · iexact S2
      iexact S3
    iexact Hs
  isplitl [Hf]; · iexact Hf
  isplitl [HO]; · iexact HO
  iintro ⟨Hd, Hov, HO⟩
  iapply Hk
  isplitl [Hsh M0 M1 M2 M3 Hr Ho Hla Hd Hov]
  · isplitl [Hsh]; · iexact Hsh
    isplitl [M0 M1 M2 M3]
    · iapply (B4_in (fun l => meetEnd 𝔾 c l))
      isplitl [M0]; · iexact M0
      isplitl [M1]; · iexact M1
      isplitl [M2]; · iexact M2
      iexact M3
    isplitl [Hr]; · iexact Hr
    isplitl [Ho]; · iexact Ho
    isplitl [Hla]; · iexact Hla
    isplitl [Hd]; · iexact Hd
    iexact Hov
  isplitl [HA]; · iexact HA
  isplitl [HB]; · iexact HB
  iexact HO

end Cert.KernelIdeal.Wg

end
-- ==== Proof.KI.Tiles.lean ====
/- The buffers cut into tiles, and glued again. -/
module

public import proofs.«01_k».proof.Proof.KI.Body
public import Idealize.ShloMosaic.Lib.MemrefSat

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## Squeezing -/

section Squeeze

variable (c : Dev nD) {sp : Space} {s s' : Shape} (m : Memref sig .tc sp s .bf16) (h : s.Squeezes s')

theorem owns_squeezed (q : PosShare TreeShare) (X : s.Idx → Elt F .bf16) :
    (owns (c : Thread nD τ) m q X : sProp 𝕄) ⊢ owns (c : Thread nD τ) (m.squeeze s' h) q (fun j => X (Shape.reshapeEquiv h.numel_eq j)) := by
  unfold owns
  iintro ⟨%f, %hf, H⟩
  iexists f
  isplitr; · ipureintro; subst hf; rfl
  iapply (Entails.of_eq (congrArg (fun S => (m.view.loc (c : Thread nD τ) ↦[S]{q} f : sProp 𝕄)) (View.set_reshape m.view h.numel_eq).symm))
  iexact H
theorem owns_unsqueezed (q : PosShare TreeShare) (Y : s'.Idx → Elt F .bf16) :
    (owns (c : Thread nD τ) (m.squeeze s' h) q Y : sProp 𝕄) ⊢ owns (c : Thread nD τ) m q (fun i => Y ((Shape.reshapeEquiv h.numel_eq).symm i)) := by
  unfold owns
  iintro ⟨%f, %hf, H⟩
  iexists f
  isplitr
  · ipureintro
    subst hf
    funext i
    exact (congrArg (m.view.read (Elt F) f) (Equiv.apply_symm_apply (Shape.reshapeEquiv h.numel_eq) i)).symm
  iapply (Entails.of_eq (congrArg (fun S => (m.view.loc (c : Thread nD τ) ↦[S]{q} f : sProp 𝕄)) (View.set_reshape m.view h.numel_eq)))
  iexact H

end Squeeze

/-! ## A buffer as a family of tiles -/

section Family

theorem anyOf (c : Dev nD) {sp : Space} {s : Shape} (m : Memref sig .tc sp s .bf16) (X : s.Idx → Elt F .bf16) :
    (owns (c : Thread nD τ) m fullShare X : sProp 𝕄) ⊢ iprop(∃ X, owns (c : Thread nD τ) m fullShare X) := by
  iintro H; iexists X; iexact H

variable (c : Dev nD) {sp : Space} {s : Shape} (m : Memref sig .tc sp s .bf16)
variable {I : Type} [Fintype I] [DecidableEq I] (r : I → Rect s) (hr : ∀ t a, (r t).stride a = 1)
  (hd : ∀ t t', t ≠ t' → Disjoint (r t).set (r t').set)
  (hcov : (Finset.univ : Finset I).biUnion (fun t => (r t).set) = Finset.univ)
include hd hcov

theorem owns_cut : (iprop(∃ X, owns (c : Thread nD τ) m fullShare X) : sProp 𝕄)
    ⊢ BI.bigSep Finset.univ fun t => iprop(∃ X, owns (c : Thread nD τ) (m.slice (r t) (hr t)) fullShare X) := by
  iintro ⟨%X, H⟩
  iapply (show (owns (c : Thread nD τ) m fullShare X : sProp 𝕄)
    ⊢ BI.bigSep Finset.univ fun t => iprop(∃ X, owns (c : Thread nD τ) (m.slice (r t) (hr t)) fullShare X) from
    (owns_rects (c : Thread nD τ) m fullShare r hr hd hcov X).trans (BI.bigSep_mono fun t _ => anyOf c _ _))
  iexact H
theorem owns_glue : (BI.bigSep Finset.univ fun t => iprop(∃ X, owns (c : Thread nD τ) (m.slice (r t) (hr t)) fullShare X))
    ⊢ (iprop(∃ X, owns (c : Thread nD τ) m fullShare X) : sProp 𝕄) := by
  refine (BI.bigSep_mono fun t _ => (show iprop(∃ X, owns (c : Thread nD τ) (m.slice (r t) (hr t)) fullShare X)
      ⊢ (ownsSat (c : Thread nD τ) (m.slice (r t) (hr t)) fullShare (fun _ => True) : sProp 𝕄) from ?_)).trans
    ((ownsSat_of_rects (c : Thread nD τ) m fullShare r hr hd hcov (fun _ _ => True)).trans ?_)
  · iintro ⟨%X, H⟩
    iapply (ownsSat_intro (c : Thread nD τ) (m.slice (r t) (hr t)) fullShare (Φ := fun _ => True) (X := X) trivial)
    iexact H
  · refine (ownsSat_elim (c : Thread nD τ) m fullShare _).trans ?_
    iintro ⟨%X, -, H⟩
    iexists X; iexact H

end Family

/-! ## The rectangles -/

theorem disjP (t t' : Fin 4) (h : t ≠ t') : Disjoint (rectP t).set (rectP t').set :=
  Rect.unit_disjoint (0 : Fin 3) (by
    have hv : t.val ≠ t'.val := fun e => h (Fin.ext e)
    show t.val + 1 ≤ t'.val ∨ t'.val + 1 ≤ t.val; omega)
theorem covP : (Finset.univ : Finset (Fin 4)).biUnion (fun t => (rectP t).set) = Finset.univ := by
  ext i
  simp only [Finset.mem_biUnion, Finset.mem_univ, true_and, iff_true]
  refine ⟨(⟨(i 0).val, (i 0).isLt⟩ : Fin 4), Rect.mem_set_unit.mpr fun a => ?_⟩
  match a with
  | 0 => exact ⟨Nat.le_refl _, Nat.lt_succ_self _⟩
  | 1 => exact ⟨Nat.zero_le _, (i 1).isLt.trans_eq (Nat.zero_add _).symm⟩
  | 2 => exact ⟨Nat.zero_le _, (i 2).isLt.trans_eq (Nat.zero_add _).symm⟩

/-- Slot `s` of one half of a lane's buffer. -/
abbrev rectR (t : Fin 2 × Fin 8) : Rect S2x8x1024x256 :=
  Rect.unit (s := S2x8x1024x256) ![t.1.val, t.2.val % 8, 0, 0] S1x1x1024x256.size (inbC t.1 t.2.val)
theorem disjR (t t' : Fin 2 × Fin 8) (h : t ≠ t') : Disjoint (rectR t).set (rectR t').set := by
  rcases Nat.lt_trichotomy t.1.val t'.1.val with h1 | h1 | h1
  · exact Rect.unit_disjoint (0 : Fin 4) (Or.inl h1)
  · have hv : t.2.val ≠ t'.2.val := fun e => h (Prod.ext (Fin.ext h1) (Fin.ext e))
    have h2 := t.2.isLt
    have h3 := t'.2.isLt
    refine Rect.unit_disjoint (1 : Fin 4) ?_
    show t.2.val % 8 + 1 ≤ t'.2.val % 8 ∨ t'.2.val % 8 + 1 ≤ t.2.val % 8
    omega
  · exact Rect.unit_disjoint (0 : Fin 4) (Or.inr h1)
theorem covR : (Finset.univ : Finset (Fin 2 × Fin 8)).biUnion (fun t => (rectR t).set) = Finset.univ := by
  ext i
  simp only [Finset.mem_biUnion, Finset.mem_univ, true_and, iff_true]
  refine ⟨((⟨(i 0).val, (i 0).isLt⟩ : Fin 2), (⟨(i 1).val, (i 1).isLt⟩ : Fin 8)), Rect.mem_set_unit.mpr fun a => ?_⟩
  have h1 : (i 1).val % 8 = (i 1).val := Nat.mod_eq_of_lt (i 1).isLt
  match a with
  | 0 => exact ⟨Nat.le_refl _, Nat.lt_succ_self _⟩
  | 1 => show (i 1).val % 8 ≤ (i 1).val ∧ (i 1).val < (i 1).val % 8 + 1; rw [h1]; exact ⟨Nat.le_refl _, Nat.lt_succ_self _⟩
  | 2 => exact ⟨Nat.zero_le _, (i 2).isLt.trans_eq (Nat.zero_add _).symm⟩
  | 3 => exact ⟨Nat.zero_le _, (i 3).isLt.trans_eq (Nat.zero_add _).symm⟩

theorem qtr_inj : ∀ l l' : Fin 4, qtr l = qtr l' → l = l' := by decide
theorem qtr_lt : ∀ l : Fin 4, qtr l < 4 := by decide
/-- The lane of a quarter. -/
def lane (q : ℕ) : Fin 4 := if q = 0 then 0 else if q = 1 then 2 else if q = 2 then 1 else 3
theorem qtr_lane : ∀ q : Fin 4, qtr (lane q.val) = q.val := by decide
theorem lane_qtr : ∀ l : Fin 4, lane (qtr l) = l := by decide
theorem opl_surj : ∀ (d : Dev nD) (l : Fin 4) (p : Fin 8), ∃ s : Fin 8, opl d l s.val = p.val := by decide +kernel

theorem off0 (d : Dev nD) (t : Fin 4 × Fin 8) : ofs d t.1 t.2.val 0 = 0 := by rw [ofs_eq d t.1 t.2.val t.2.isLt]; rfl
theorem off1 (d : Dev nD) (t : Fin 4 × Fin 8) : ofs d t.1 t.2.val 1 = 1024 * opl d t.1 t.2.val + 256 * qtr t.1 := by
  rw [ofs_eq d t.1 t.2.val t.2.isLt]; rfl
theorem disjO (d : Dev nD) (t t' : Fin 4 × Fin 8) (h : t ≠ t') : Disjoint (rectO d t.1 t.2.val).set (rectO d t'.1 t'.2.val).set := by
  refine Rect.unit_disjoint (1 : Fin 2) ?_
  rw [off1, off1]
  show _ + 256 ≤ _ ∨ _ + 256 ≤ _
  have q1 := qtr_lt t.1
  have q2 := qtr_lt t'.1
  by_cases hq : qtr t.1 = qtr t'.1
  · have hl := qtr_inj _ _ hq
    have hs : opl d t.1 t.2.val ≠ opl d t'.1 t'.2.val := fun e => h (Prod.ext hl (opl_inj d t.1 t.2 t'.2 (by rw [e, hl])))
    omega
  · omega
theorem covO (d : Dev nD) : (Finset.univ : Finset (Fin 4 × Fin 8)).biUnion (fun t => (rectO d t.1 t.2.val).set) = Finset.univ := by
  ext i
  simp only [Finset.mem_biUnion, Finset.mem_univ, true_and, iff_true]
  have h1 : (i 1).val < 8192 := (i 1).isLt
  obtain ⟨s, hs⟩ := opl_surj d (lane ((i 1).val % 1024 / 256)) ⟨(i 1).val / 1024, by omega⟩
  have hs : opl d (lane ((i 1).val % 1024 / 256)) s.val = (i 1).val / 1024 := hs
  have hq : qtr (lane ((i 1).val % 1024 / 256)) = (i 1).val % 1024 / 256 := qtr_lane ⟨(i 1).val % 1024 / 256, by omega⟩
  refine ⟨(lane ((i 1).val % 1024 / 256), s), Rect.mem_set_unit.mpr fun a => ?_⟩
  match a with
  | 0 =>
    have e := off0 d (lane ((i 1).val % 1024 / 256), s)
    exact ⟨(Nat.le_of_eq e).trans (Nat.zero_le _), ((i 0).isLt).trans_le (Nat.le_add_left _ _)⟩
  | 1 =>
    have e := off1 d (lane ((i 1).val % 1024 / 256), s)
    rw [show opl d (lane ((i 1).val % 1024 / 256), s).1 (lane ((i 1).val % 1024 / 256), s).2.val = (i 1).val / 1024 from hs,
      show qtr (lane ((i 1).val % 1024 / 256), s).1 = (i 1).val % 1024 / 256 from hq] at e
    show ofs d _ _ 1 ≤ (i 1).val ∧ (i 1).val < ofs d _ _ 1 + 256
    rw [e]
    omega

/-! ## The buffers cut into tiles, and glued again -/

variable (c : Dev nD)

theorem any_sq {sp : Space} {s : Shape} (m : Memref sig .tc sp s .bf16) (h : s.Squeezes S1024x256) :
    (iprop(∃ X, owns (c : Thread nD τ) m fullShare X) : sProp 𝕄) ⊢ anyT c (m.squeeze S1024x256 h) := by
  unfold anyT
  iintro ⟨%X, H⟩
  iexists _
  iapply (owns_squeezed c m h fullShare X); iexact H
theorem any_unsq {sp : Space} {s : Shape} (m : Memref sig .tc sp s .bf16) (h : s.Squeezes S1024x256) :
    anyT c (m.squeeze S1024x256 h) ⊢ (iprop(∃ X, owns (c : Thread nD τ) m fullShare X) : sProp 𝕄) := by
  unfold anyT
  iintro ⟨%X, H⟩
  iexists _
  iapply (owns_unsqueezed c m h fullShare X); iexact H

/-- A buffer held whole, at contents not chosen. -/
def anyB (b : Ref sig .tc) : sProp 𝕄 := iprop(∃ f : Buf (Elt F) ((c : Thread nD τ).loc b), ((c : Thread nD τ).loc b) ↦{fullShare} f)

theorem anyB_eq (b : Ref sig .tc) : (anyB (F := F) c b) ⊣⊢ iprop(∃ X, owns (c : Thread nD τ) (Memref.whole b) fullShare X) := by
  unfold anyB
  have e : (fun f => (((c : Thread nD τ).loc b) ↦{fullShare} f : sProp 𝕄)) = fun f => owns (c : Thread nD τ) (Memref.whole b) fullShare f :=
    funext fun f => (owns_whole (c : Thread nD τ) b fullShare f).symm
  exact BIBase.BiEntails.of_eq (congrArg BIBase.«exists» e)

theorem tiles_sT : anyB c cc0_scratch0 ⊢ (B4 (fun l => anyT (F := F) c (sT l)) : sProp 𝕄) := by
  rw [B4_eq]
  exact (anyB_eq c cc0_scratch0).1.trans ((owns_cut c sM rectP (fun _ _ => rfl) disjP covP).trans
    (BI.bigSep_mono fun l _ => any_sq c _ squeezes_S1x1024x256_S1024x256))
theorem tiles_rT : anyB c cc0_scratch1 ⊢ (B4 (fun l => anyT (F := F) c (rT l)) : sProp 𝕄) := by
  rw [B4_eq]
  exact (anyB_eq c cc0_scratch1).1.trans ((owns_cut c rM rectP (fun _ _ => rfl) disjP covP).trans
    (BI.bigSep_mono fun l _ => any_sq c _ squeezes_S1x1024x256_S1024x256))
theorem glue_sT : (B4 (fun l => anyT (F := F) c (sT l)) : sProp 𝕄) ⊢ anyB c cc0_scratch0 := by
  rw [B4_eq]
  exact (BI.bigSep_mono fun l _ => any_unsq c _ squeezes_S1x1024x256_S1024x256).trans
    ((owns_glue c sM rectP (fun _ _ => rfl) disjP covP).trans (anyB_eq c cc0_scratch0).2)
theorem glue_rT : (B4 (fun l => anyT (F := F) c (rT l)) : sProp 𝕄) ⊢ anyB c cc0_scratch1 := by
  rw [B4_eq]
  exact (BI.bigSep_mono fun l _ => any_unsq c _ squeezes_S1x1024x256_S1024x256).trans
    ((owns_glue c rM rectP (fun _ _ => rfl) disjP covP).trans (anyB_eq c cc0_scratch1).2)

/-- The lane that keeps its slots in row `r` of the first (`b = 0`) or the second (`b = 1`) buffer. -/
def laneOf (b : Fin 2) (r : Fin 2) : Fin 4 := ⟨2 * r.val + b.val, by omega⟩

theorem pairs (Φ : Fin 2 → Fin 8 → sProp 𝕄) :
    (BI.bigSep Finset.univ fun t : Fin 2 × Fin 8 => Φ t.1 t.2)
      = iprop((BI.bigSep Finset.univ fun s => Φ 0 s) ∗ BI.bigSep Finset.univ fun s => Φ 1 s) :=
  (BI.bigSep_univ_prod (fun t : Fin 2 × Fin 8 => Φ t.1 t.2)).trans (BI.bigSep_fin_two _)

theorem tiles_cT0 : anyB c cc0_scratch2 ⊢ (iprop((BI.bigSep Finset.univ fun s : Fin 8 => anyT (F := F) c (cT 0 s.val))
    ∗ BI.bigSep Finset.univ fun s : Fin 8 => anyT c (cT 2 s.val)) : sProp 𝕄) :=
  ((anyB_eq c cc0_scratch2).1.trans ((owns_cut c (Memref.whole cc0_scratch2) rectR (fun _ _ => rfl) disjR covR).trans
    (BI.bigSep_mono fun t _ => any_sq c _ squeezes_S1x1x1024x256_S1024x256))).trans (Entails.of_eq (pairs fun r s => anyT c
      (((Memref.whole cc0_scratch2).slice (rectR (r, s)) (fun _ => rfl)).squeeze S1024x256 squeezes_S1x1x1024x256_S1024x256)))
theorem tiles_cT1 : anyB c cc0_scratch3 ⊢ (iprop((BI.bigSep Finset.univ fun s : Fin 8 => anyT (F := F) c (cT 1 s.val))
    ∗ BI.bigSep Finset.univ fun s : Fin 8 => anyT c (cT 3 s.val)) : sProp 𝕄) :=
  ((anyB_eq c cc0_scratch3).1.trans ((owns_cut c (Memref.whole cc0_scratch3) rectR (fun _ _ => rfl) disjR covR).trans
    (BI.bigSep_mono fun t _ => any_sq c _ squeezes_S1x1x1024x256_S1024x256))).trans (Entails.of_eq (pairs fun r s => anyT c
      (((Memref.whole cc0_scratch3).slice (rectR (r, s)) (fun _ => rfl)).squeeze S1024x256 squeezes_S1x1x1024x256_S1024x256)))
theorem glue_cT0 : (iprop((BI.bigSep Finset.univ fun s : Fin 8 => anyT (F := F) c (cT 0 s.val))
    ∗ BI.bigSep Finset.univ fun s : Fin 8 => anyT c (cT 2 s.val)) : sProp 𝕄) ⊢ anyB c cc0_scratch2 :=
  (Entails.of_eq (pairs fun r s => anyT c
      (((Memref.whole cc0_scratch2).slice (rectR (r, s)) (fun _ => rfl)).squeeze S1024x256 squeezes_S1x1x1024x256_S1024x256)).symm).trans
    ((BI.bigSep_mono fun t _ => any_unsq c _ squeezes_S1x1x1024x256_S1024x256).trans
    ((owns_glue c (Memref.whole cc0_scratch2) rectR (fun _ _ => rfl) disjR covR).trans (anyB_eq c cc0_scratch2).2))
theorem glue_cT1 : (iprop((BI.bigSep Finset.univ fun s : Fin 8 => anyT (F := F) c (cT 1 s.val))
    ∗ BI.bigSep Finset.univ fun s : Fin 8 => anyT c (cT 3 s.val)) : sProp 𝕄) ⊢ anyB c cc0_scratch3 :=
  (Entails.of_eq (pairs fun r s => anyT c
      (((Memref.whole cc0_scratch3).slice (rectR (r, s)) (fun _ => rfl)).squeeze S1024x256 squeezes_S1x1x1024x256_S1024x256)).symm).trans
    ((BI.bigSep_mono fun t _ => any_unsq c _ squeezes_S1x1x1024x256_S1024x256).trans
    ((owns_glue c (Memref.whole cc0_scratch3) rectR (fun _ _ => rfl) disjR covR).trans (anyB_eq c cc0_scratch3).2))

/-! ## The result -/

/-- The rows a device ends with: block by block the sums of the eight devices of its ring. -/
def outBuf (T : Dev nD → Fin 4 → S1024x256.Idx → Elt F .bf16) : S1024x8192.Idx → Elt F .bf16 := fun i =>
  T (dv (c.val / 8) ((i 1).val / 1024)) (lane ((i 1).val % 1024 / 256))
    (fun a => match a with | 0 => ⟨(i 0).val, (i 0).isLt⟩ | 1 => ⟨(i 1).val % 256, Nat.mod_lt _ (by decide)⟩)

theorem outBuf_tile (T : Dev nD → Fin 4 → S1024x256.Idx → Elt F .bf16) (t : Fin 4 × Fin 8) :
    (fun j => outBuf c T ((rectO c t.1 t.2.val).emb j)) = T (org c t.1 t.2.val) t.1 := by
  funext j
  have e0 : ((rectO c t.1 t.2.val).emb j 0 : ℕ) = (j 0).val := by
    show ofs c t.1 t.2.val 0 + 1 * (j 0).val = _
    rw [off0, Nat.zero_add, Nat.one_mul]
  have e1 : ((rectO c t.1 t.2.val).emb j 1 : ℕ) = 1024 * opl c t.1 t.2.val + 256 * qtr t.1 + (j 1).val := by
    show ofs c t.1 t.2.val 1 + 1 * (j 1).val = _
    rw [off1, Nat.one_mul]
  have hj : (j 1).val < 256 := (j 1).isLt
  have hq := qtr_lt t.1
  unfold outBuf
  have h1 : ((rectO c t.1 t.2.val).emb j 1 : ℕ) / 1024 = opl c t.1 t.2.val := by rw [e1]; omega
  have h2 : ((rectO c t.1 t.2.val).emb j 1 : ℕ) % 1024 / 256 = qtr t.1 := by rw [e1]; omega
  have h3 : ((rectO c t.1 t.2.val).emb j 1 : ℕ) % 256 = (j 1).val := by rw [e1]; omega
  rw [h1, h2, lane_qtr]
  refine congrArg (T (org c t.1 t.2.val) t.1) (funext fun a => ?_)
  match a with
  | 0 => exact Fin.ext e0
  | 1 => exact Fin.ext h3

theorem lanes (Φ : Fin 4 → Fin 8 → sProp 𝕄) :
    (BI.bigSep Finset.univ fun t : Fin 4 × Fin 8 => Φ t.1 t.2) = B4 fun l => BI.bigSep Finset.univ fun s => Φ l s := by
  rw [BI.bigSep_univ_prod (fun t : Fin 4 × Fin 8 => Φ t.1 t.2), B4_eq]

theorem tiles_oT (f : Buf (Elt F) ((c : Thread nD τ).loc main_v17)) :
    (((c : Thread nD τ).loc main_v17) ↦{fullShare} f : sProp 𝕄) ⊢ B4 fun l => BI.bigSep Finset.univ fun s : Fin 8 => anyT (F := F) c (oT c l s.val) := by
  rw [← owns_whole, ← lanes (fun l s => anyT (F := F) c (oT c l s.val))]
  exact (owns_rects (c : Thread nD τ) oM fullShare (fun t : Fin 4 × Fin 8 => rectO c t.1 t.2.val) (fun _ _ => rfl) (disjO c) (covO c) f).trans
    (BI.bigSep_mono fun t _ => anyT_of _)
theorem glue_oT (T : Dev nD → Fin 4 → S1024x256.Idx → Elt F .bf16) :
    (B4 fun l => BI.bigSep Finset.univ fun s : Fin 8 => owns (c : Thread nD τ) (oT c l s.val) fullShare (T (org c l s.val) l))
      ⊢ (((c : Thread nD τ).loc main_v17) ↦{fullShare} (outBuf c T) : sProp 𝕄) := by
  rw [← lanes (fun l s => owns (c : Thread nD τ) (oT c l s.val) fullShare (T (org c l s.val) l))]
  refine (BI.bigSep_mono fun t _ => Entails.of_eq (congrArg (fun X => owns (c : Thread nD τ) (oT c t.1 t.2.val) fullShare X) (outBuf_tile c T t).symm)).trans ?_
  refine (owns_of_rects (c : Thread nD τ) oM fullShare (fun t : Fin 4 × Fin 8 => rectO c t.1 t.2.val) (fun _ _ => rfl) (disjO c) (covO c) (outBuf c T)).trans ?_
  exact Entails.of_eq (owns_whole (c : Thread nD τ) main_v17 fullShare (outBuf c T))

end Cert.KernelIdeal.Wg

end
-- ==== Proof.KI.Pack.lean ====
/- What a device's body takes and leaves, gathered. -/
module

public import proofs.«01_k».proof.Proof.KI.Tiles

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

instance sepComm : _root_.Std.Commutative (α := sProp 𝕄) BIBase.sep where
  comm P Q := BI.equiv_iff.mp ⟨BI.sep_comm, BI.sep_comm⟩
instance sepAssoc : _root_.Std.Associative (α := sProp 𝕄) BIBase.sep where
  assoc P Q R := BI.equiv_iff.mp ⟨BI.sep_assoc, BI.sep_assoc'⟩

/-! ## The region's own semaphores -/

abbrev J : Type := Fin 4 ⊕ Fin 4 ⊕ Fin 4 ⊕ (Fin 4 × Fin 8) ⊕ (Fin 4 × Fin 8)
def osem : J → SemLoc sig
  | .inl l => .dma (outS l)
  | .inr (.inl l) => .dma (xsS l)
  | .inr (.inr (.inl l)) => .dma (xrS l)
  | .inr (.inr (.inr (.inl t))) => .dma (sndS t.1 t.2.val)
  | .inr (.inr (.inr (.inr t))) => .dma (rcvS t.1 t.2.val)
theorem osem_inj : Function.Injective osem := by decide +kernel
theorem osem_cell : ∀ j, isCell (osem j) = true := by decide +kernel
theorem cell_osem : ∀ sm : SemLoc sig, isCell sm = true → sm = .reg barrier0 ∨ ∃ j, osem j = sm := by decide +kernel

/-- One fact at each of a device's own cells. -/
def fam (c : Dev nD) (Φ : GSem nD τ sig → sProp 𝕄) : sProp 𝕄 :=
  iprop(B4 (fun l => Φ (outC c l)) ∗ B4 (fun l => Φ (xsC c l)) ∗ B4 (fun l => Φ (xrC c l))
    ∗ (BI.bigSep Finset.univ fun s : Fin 8 => B4 fun l => Φ (sndC c l s.val)) ∗ (BI.bigSep Finset.univ fun s : Fin 8 => B4 fun l => Φ (rcvC c l s.val)))
theorem fam_eq (c : Dev nD) (Φ : GSem nD τ sig → sProp 𝕄) :
    (BI.bigSep Finset.univ fun j : J => Φ ((c : Thread nD τ), osem j)) = fam c Φ := by
  have e1 := lanes (F := F) (fun l s => Φ (sndC c l s.val))
  have e2 := lanes (F := F) (fun l s => Φ (rcvC c l s.val))
  have e3 := B4_swap (F := F) (n := 8) (fun l s => Φ (sndC c l s.val))
  have e4 := B4_swap (F := F) (n := 8) (fun l s => Φ (rcvC c l s.val))
  unfold fam
  rw [← e3, ← e4, ← e1, ← e2, B4_eq, B4_eq, B4_eq, BI.bigSep_univ_sum, BI.bigSep_univ_sum, BI.bigSep_univ_sum, BI.bigSep_univ_sum]
  rfl
theorem fam_sep (c : Dev nD) (Φ Ψ : GSem nD τ sig → sProp 𝕄) : fam c (fun g => iprop(Φ g ∗ Ψ g)) = iprop(fam c Φ ∗ fam c Ψ) := by
  unfold fam
  simp only [B4_sep, bs]
  ac_rfl

/-! ## Runs of slots -/

theorem list8 (Φ : ℕ → sProp 𝕄) : (BI.bigSep Finset.univ fun s : Fin 8 => Φ s.val) = iprop(Φ 0 ∗ Φ 1 ∗ Φ 2 ∗ Φ 3 ∗ Φ 4 ∗ Φ 5 ∗ Φ 6 ∗ Φ 7) :=
  (BI.bigSep_univ_eq_bigSepL [0, 1, 2, 3, 4, 5, 6, 7] (by decide) (by decide) _).trans rfl
theorem s7h (Φ : ℕ → sProp 𝕄) : (BI.bigSep Finset.univ fun s : Fin 7 => Φ s.val) = iprop(Φ 0 ∗ BI.bigSep Finset.univ fun s : Fin 6 => Φ (s.val + 1)) := by
  rw [list7, list6 (fun s => Φ (s + 1))]
theorem s7l (Φ : ℕ → sProp 𝕄) : (BI.bigSep Finset.univ fun s : Fin 7 => Φ s.val) = iprop((BI.bigSep Finset.univ fun s : Fin 6 => Φ s.val) ∗ Φ 6) := by
  rw [list7, list6]; ac_rfl
theorem s8h (Φ : ℕ → sProp 𝕄) : (BI.bigSep Finset.univ fun s : Fin 8 => Φ s.val) = iprop(Φ 0 ∗ BI.bigSep Finset.univ fun s : Fin 7 => Φ (s.val + 1)) := by
  rw [list8, list7 (fun s => Φ (s + 1))]
theorem s8l (Φ : ℕ → sProp 𝕄) : (BI.bigSep Finset.univ fun s : Fin 8 => Φ s.val) = iprop((BI.bigSep Finset.univ fun s : Fin 7 => Φ s.val) ∗ Φ 7) := by
  rw [list8, list7]; ac_rfl
theorem s8m (Φ : ℕ → sProp 𝕄) : (BI.bigSep Finset.univ fun s : Fin 8 => Φ s.val)
    = iprop(Φ 0 ∗ (BI.bigSep Finset.univ fun s : Fin 6 => Φ (s.val + 1)) ∗ Φ 7) := by
  rw [s8h, s7l (fun s => Φ (s + 1))]

/-! ## Before the body -/

/-- What the launch leaves with a device: the duties it is to do and what it may wait for. -/
def launchIn (c : Dev nD) : sProp 𝕄 :=
  iprop(shakeIn c ∗ B4 (fun l => dutyTok ER (xsC c l) 0 0) ∗ B4 (fun l => dutyTok ER (xrC (par c) l) 0 0) ∗ B4 (fun l => cred (tallyAt (xrC c l) () N))
    ∗ (BI.bigSep Finset.univ fun s : Fin 7 => B4 fun l => dutyTok ER (sndC c l s.val) 0 0)
    ∗ (BI.bigSep Finset.univ fun s : Fin 7 => B4 fun l => dutyTok ER (rcvC (nxt l c) l (s.val + 1)) 0 0)
    ∗ (BI.bigSep Finset.univ fun s : Fin 7 => B4 fun l => cred (tallyAt (rcvC c l (s.val + 1)) () N))
    ∗ (BI.bigSep Finset.univ fun s : Fin 8 => B4 fun l => dutyTok ER (outC c l) s.val 0))
/-- The tiles of the buffers it works in. -/
def tilesIn (c : Dev nD) : sProp 𝕄 :=
  iprop(B4 (fun l => anyT c (sT l)) ∗ B4 (fun l => anyT c (rT l)) ∗ (BI.bigSep Finset.univ fun s : Fin 8 => B4 fun l => anyT c (cT l s.val))
    ∗ (BI.bigSep Finset.univ fun s : Fin 8 => B4 fun l => anyT c (oT c l s.val)))
/-- Two counters of each lane that nothing raises. -/
def idleAt (c : Dev nD) : sProp 𝕄 := iprop(B4 (fun l => atPos ER (sndC c l 7) 0 ∅ 0) ∗ B4 (fun l => atPos ER (rcvC c l 0) 0 ∅ 0))
def idleR (c : Dev nD) : sProp 𝕄 := iprop(B4 (fun l => reached ER (sndC c l 7) 0) ∗ B4 (fun l => reached ER (rcvC c l 0) 0))

theorem readyL_list (c : Dev nD) : (B4 fun l => readyL (F := F) c l)
    = BI.bigSep Finset.univ fun s : Fin 7 => B4 fun l => iprop(anyT c (cT l (s.val + 1)) ∗ reached ER (rcvC c l (s.val + 1)) 0) :=
  B4_swap (n := 7) fun l s => iprop(anyT c (cT l (s.val + 1)) ∗ reached ER (rcvC c l (s.val + 1)) 0)

set_option maxRecDepth 8192 in
theorem bodyIn_eq (c : Dev nD) : iprop(launchIn c ∗ fam c (fun g => atPos ER g 0 ∅ 0) ∗ fam c (fun g => reached ER g 0) ∗ tilesIn (F := F) c)
    = iprop(bodyIn c ∗ idleAt c ∗ idleR c) := by
  unfold bodyIn
  rw [readyX_list, readyL_list]
  unfold launchIn fam tilesIn idleAt idleR giveIn meetIn hopIn lastIn rcvIn passIn outIn outAt
  rw [s8m (fun s => B4 fun l => atPos ER (sndC c l s) 0 ∅ 0), s8m (fun s => B4 fun l => atPos ER (rcvC c l s) 0 ∅ 0),
    s8l (fun s => B4 fun l => reached ER (sndC c l s) 0), s7h (fun s => B4 fun l => reached ER (sndC c l s) 0), s8h (fun s => B4 fun l => reached ER (rcvC c l s) 0),
    s8h (fun s => B4 fun l => anyT (F := F) c (cT l s)), s8m (fun s => B4 fun l => anyT (F := F) c (oT c l s)),
    s7h (fun s => B4 fun l => dutyTok ER (sndC c l s) 0 0), s7h (fun s => B4 fun l => dutyTok ER (rcvC (nxt l c) l (s + 1)) 0 0),
    s7l (fun s => B4 fun l => cred (tallyAt (rcvC c l (s + 1)) () N)), s8m (fun s => B4 fun l => dutyTok ER (outC c l) s 0)]
  simp only [B4_sep, bs]
  ac_rfl

/-! ## After it -/

variable (G T : Dev nD → Fin 4 → S1024x256.Idx → Elt F .bf16) (K : GSem nD τ sig → ℕ)

set_option maxRecDepth 8192 in
theorem bodyEnd_eq (c : Dev nD) : bodyEnd G T c
    = iprop(shakeEnd c ∗ B4 (fun l => owns (c : Thread nD τ) (sT l) fullShare (G c l)) ∗ B4 (fun l => owns (c : Thread nD τ) (rT l) fullShare (G (par c) l))
      ∗ B4 (fun l => atPos ER (xsC c l) 1 ∅ 0) ∗ B4 (fun l => atPos ER (xrC c l) 1 ∅ 0)
      ∗ (BI.bigSep Finset.univ fun s : Fin 7 => B4 fun l => atPos ER (rcvC c l (s.val + 1)) 1 ∅ 0)
      ∗ (BI.bigSep Finset.univ fun s : Fin 7 => B4 fun l => atPos ER (sndC c l s.val) 1 ∅ 0)
      ∗ B4 (fun l => atPos ER (outC c l) 8 ∅ 0) ∗ B4 (fun l => reached ER (outC c l) 8)
      ∗ (BI.bigSep Finset.univ fun s : Fin 8 => B4 fun l => owns (c : Thread nD τ) (oT c l s.val) fullShare (T (org c l s.val) l))
      ∗ (BI.bigSep Finset.univ fun s : Fin 8 => B4 fun l => slotAt T halfL c l s.val)
      ∗ (BI.bigSep Finset.univ fun s : Fin 8 => B4 fun l => slotAt T halfR c l s.val)) := by
  unfold bodyEnd meetEnd rcvEnd outEnd lastEnd sentEnd overEnd outAt rcvEnd outEnd
  rw [s8l (fun s => B4 fun l => owns (c : Thread nD τ) (oT c l s) fullShare (T (org c l s) l)),
    s7l (fun s => B4 fun l => owns (c : Thread nD τ) (oT c l s) fullShare (T (org c l s) l)),
    s8l (fun s => B4 fun l => slotAt T halfL c l s),
    s8l (fun s => B4 fun l => slotAt T halfR c l s), s7l (fun s => B4 fun l => slotAt T halfR c l s),
    s7l (fun s => B4 fun l => atPos ER (rcvC c l (s + 1)) 1 ∅ 0)]
  simp only [B4_sep, bs]
  ac_rfl

/-- A counter after its last round is closed at zero. -/
theorem closed (c : Dev nD) (n : DmaSem sig) (k : Kd) (hk : kind n = k) (h : k ≠ .oth) (R : ℕ) (hR : ∀ r, R ≤ r → ¬ dmaDuty r k) :
    iprop(ctx G T K ∗ atPos ER ((c : Thread nD τ), .dma n) R ∅ 0) ⊢ (|={Set.univ}=> semVal ((c : Thread nD τ), .dma n) 0 : sProp 𝕄) := by
  iintro ⟨#Hc, H⟩
  iapply (Rounds.cell_close ER (Rd G T) (g := ((c : Thread nD τ), .dma n)) (Set.mem_univ (K ((c : Thread nD τ), .dma n))) (fun h => h)
    (R := R) (duties_dma_later G T c n R (hk ▸ hR)))
  isplitr; · iapply (ctx_dma G T K c n k hk h); iexact Hc
  iexact H
theorem closed_bar (c : Dev nD) : iprop(ctx G T K ∗ shakeEnd c) ⊢ (|={Set.univ}=> semVal (barC c) 0 : sProp 𝕄) := by
  unfold shakeEnd
  iintro ⟨#Hc, H⟩
  iapply (Rounds.cell_close ER (Rd G T) (g := barC c) (Set.mem_univ (K (barC c))) (fun h => h) (R := 1) (duties_bar_later G T c))
  isplitr; · iapply (ctx_bar G T K c); iexact Hc
  iexact H

theorem all_upd {I : Type} [Fintype I] [DecidableEq I] (R : sProp 𝕄) [BI.Persistent R] (Φ Ψ : I → sProp 𝕄) (h : ∀ i, iprop(R ∗ Φ i) ⊢ (|={Set.univ}=> Ψ i : sProp 𝕄)) :
    iprop(R ∗ BI.bigSep Finset.univ Φ) ⊢ (|={Set.univ}=> BI.bigSep Finset.univ Ψ : sProp 𝕄) :=
  (BI.bigSep_with_persistent (R := R) (Φ := Φ) fun i _ => h i).trans (BI.bigSep_fupd Finset.univ Ψ)
theorem B4_upd (R : sProp 𝕄) [BI.Persistent R] (Φ Ψ : Fin 4 → sProp 𝕄) (h : ∀ i, iprop(R ∗ Φ i) ⊢ (|={Set.univ}=> Ψ i : sProp 𝕄)) :
    iprop(R ∗ B4 Φ) ⊢ (|={Set.univ}=> B4 Ψ : sProp 𝕄) := by
  rw [B4_eq, B4_eq]; exact all_upd R Φ Ψ h
theorem B4_mono (Φ Ψ : Fin 4 → sProp 𝕄) (h : ∀ i, Φ i ⊢ Ψ i) : B4 Φ ⊢ (B4 Ψ : sProp 𝕄) := by
  rw [B4_eq, B4_eq]; exact BI.bigSep_mono fun i _ => h i

end Cert.KernelIdeal.Wg

end
-- ==== Proof.KI.Finish.lean ====
/- A device's buffers and counters before the body and after it. -/
module

public import proofs.«01_k».proof.Proof.KI.Pack

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (G T : Dev nD → Fin 4 → S1024x256.Idx → Elt F .bf16) (K : GSem nD τ sig → ℕ) (c : Dev nD)

/-! ## The buffers -/

/-- The four buffers the body works in, at contents not chosen. -/
def work : sProp 𝕄 := iprop(anyB c cc0_scratch0 ∗ anyB c cc0_scratch1 ∗ anyB c cc0_scratch2 ∗ anyB c cc0_scratch3)

theorem tiles_of (f : Buf (Elt F) ((c : Thread nD τ).loc main_v17)) :
    iprop(work c ∗ (((c : Thread nD τ).loc main_v17) ↦{fullShare} f)) ⊢ (tilesIn c : sProp 𝕄) := by
  unfold work tilesIn
  iintro ⟨⟨H0, H1, H2, H3⟩, HO⟩
  isplitl [H0]; · iapply (tiles_sT c); iexact H0
  isplitl [H1]; · iapply (tiles_rT c); iexact H1
  isplitl [H2 H3]
  · iapply (Entails.of_eq (B4_swap (n := 8) fun l s => anyT (F := F) c (cT l s.val)))
    iapply (B4_in (fun l => BI.bigSep Finset.univ fun s : Fin 8 => anyT (F := F) c (cT l s.val)))
    ihave H2 := (tiles_cT0 c) $$ H2
    ihave H3 := (tiles_cT1 c) $$ H3
    icases H2 with ⟨Ha, Hb⟩
    icases H3 with ⟨Hc, Hd⟩
    isplitl [Ha]; · iexact Ha
    isplitl [Hc]; · iexact Hc
    isplitl [Hb]; · iexact Hb
    iexact Hd
  iapply (Entails.of_eq (B4_swap (n := 8) fun l s => anyT (F := F) c (oT c l s.val)))
  iapply (tiles_oT c f); iexact HO

theorem slot_any (l : Fin 4) (s : ℕ) : iprop(slotAt T halfL c l s ∗ slotAt T halfR c l s) ⊢ (anyT c (cT l s) : sProp 𝕄) := by
  refine (slot_whole T c l s).trans ?_
  unfold slotAt
  exact anyT_of _
theorem slots_any (s : ℕ) : iprop((B4 fun l => slotAt T halfL c l s) ∗ B4 fun l => slotAt T halfR c l s) ⊢ (B4 fun l => anyT (F := F) c (cT l s) : sProp 𝕄) :=
  (Entails.of_eq (B4_sep (fun l => slotAt T halfL c l s) (fun l => slotAt T halfR c l s)).symm).trans
    (B4_mono (fun l => iprop(slotAt T halfL c l s ∗ slotAt T halfR c l s)) (fun l => anyT (F := F) c (cT l s)) fun l => slot_any T c l s)
theorem slots_back : iprop((BI.bigSep Finset.univ fun s : Fin 8 => B4 fun l => slotAt T halfL c l s.val) ∗ (BI.bigSep Finset.univ fun s : Fin 8 => B4 fun l => slotAt T halfR c l s.val))
    ⊢ iprop(anyB c cc0_scratch2 ∗ anyB c cc0_scratch3) := by
  refine (Entails.of_eq (bs Finset.univ (fun s : Fin 8 => B4 fun l => slotAt T halfL c l s.val) (fun s : Fin 8 => B4 fun l => slotAt T halfR c l s.val)).symm).trans ?_
  have h : ∀ s ∈ (Finset.univ : Finset (Fin 8)), iprop((B4 fun l => slotAt T halfL c l s.val) ∗ B4 fun l => slotAt T halfR c l s.val)
      ⊢ (B4 fun l => anyT (F := F) c (cT l s.val) : sProp 𝕄) := fun s _ => slots_any T c s.val
  refine (BI.bigSep_mono h).trans ?_
  refine (Entails.of_eq (B4_swap (n := 8) fun l s => anyT (F := F) c (cT l s.val)).symm).trans ?_
  refine (B4_out (fun l => BI.bigSep Finset.univ fun s : Fin 8 => anyT (F := F) c (cT l s.val))).trans ?_
  iintro ⟨Ha, Hc, Hb, Hd⟩
  isplitl [Ha Hb]
  · iapply (glue_cT0 c)
    isplitl [Ha]; · iexact Ha
    iexact Hb
  · iapply (glue_cT1 c)
    isplitl [Hc]; · iexact Hc
    iexact Hd

/-! ## The counters at zero again -/

theorem out_over (l : Fin 4) : iprop(ctx G T K ∗ atPos ER (outC c l) 8 ∅ 0) ⊢ (|={Set.univ}=> semVal (outC c l) 0 : sProp 𝕄) :=
  closed G T K c (outS l) (.out l) (kind_out l) (fun h => Kd.noConfusion h) 8 (fun r hr h => absurd h (Nat.not_lt.mpr hr))
theorem xs_over (l : Fin 4) : iprop(ctx G T K ∗ atPos ER (xsC c l) 1 ∅ 0) ⊢ (|={Set.univ}=> semVal (xsC c l) 0 : sProp 𝕄) :=
  closed G T K c (xsS l) (.xs l) (kind_xs l) (fun h => Kd.noConfusion h) 1 (fun r hr h => absurd (show r = 0 from h) (by omega))
theorem xr_over (l : Fin 4) : iprop(ctx G T K ∗ atPos ER (xrC c l) 1 ∅ 0) ⊢ (|={Set.univ}=> semVal (xrC c l) 0 : sProp 𝕄) :=
  closed G T K c (xrS l) (.xr l) (kind_xr l) (fun h => Kd.noConfusion h) 1 (fun r hr h => absurd (show r = 0 from h) (by omega))
theorem snd_over (l : Fin 4) (s : ℕ) (hs : s < 7) : iprop(ctx G T K ∗ atPos ER (sndC c l s) 1 ∅ 0) ⊢ (|={Set.univ}=> semVal (sndC c l s) 0 : sProp 𝕄) :=
  closed G T K c (sndS l s) (.snd l s) (kind_snd l s (by omega)) (fun h => Kd.noConfusion h) 1 (fun r hr h => absurd (show r = 0 from h.1) (by omega))
theorem rcv_over (l : Fin 4) (s : ℕ) (hs : s < 7) : iprop(ctx G T K ∗ atPos ER (rcvC c l (s + 1)) 1 ∅ 0) ⊢ (|={Set.univ}=> semVal (rcvC c l (s + 1)) 0 : sProp 𝕄) :=
  closed G T K c (rcvS l (s + 1)) (.rcv l (s + 1)) (kind_rcv l (s + 1) (by omega)) (fun h => Kd.noConfusion h) 1 (fun r hr h => absurd (show r = 0 from h.1) (by omega))
theorem snd_idle (l : Fin 4) : iprop(ctx G T K ∗ atPos ER (sndC c l 7) 0 ∅ 0) ⊢ (|={Set.univ}=> semVal (sndC c l 7) 0 : sProp 𝕄) :=
  closed G T K c (sndS l 7) (.snd l 7) (kind_snd l 7 (by omega)) (fun h => Kd.noConfusion h) 0 (fun r hr h => absurd (show 7 < 7 from h.2) (by omega))
theorem rcv_idle (l : Fin 4) : iprop(ctx G T K ∗ atPos ER (rcvC c l 0) 0 ∅ 0) ⊢ (|={Set.univ}=> semVal (rcvC c l 0) 0 : sProp 𝕄) :=
  closed G T K c (rcvS l 0) (.rcv l 0) (kind_rcv l 0 (by omega)) (fun h => Kd.noConfusion h) 0 (fun r hr h => absurd (show 1 ≤ 0 from h.2) (by omega))

/-- What is left at the end: every counter at zero, the buffers whole, and the result. -/
def ended : sProp 𝕄 :=
  iprop(semVal (barC c) 0 ∗ fam c (fun g => semVal g 0) ∗ work c ∗ (((c : Thread nD τ).loc main_v17) ↦{fullShare} (outBuf c T)))

set_option maxRecDepth 8192 in
theorem finish : iprop(ctx G T K ∗ bodyEnd G T c ∗ idleAt c) ⊢ (|={Set.univ}=> ended T c : sProp 𝕄) := by
  rw [bodyEnd_eq]
  unfold idleAt
  iintro ⟨#Hc, ⟨Hb, Hs, Hr, Hxs, Hxr, Hrv, Hsn, Ho, -, HO, HL, HR⟩, Hi1, Hi2⟩
  imod (closed_bar G T K c) $$ [Hb] with Hb
  · isplitr; · iexact Hc
    iexact Hb
  imod (B4_upd (ctx G T K) _ _ (out_over G T K c)) $$ [Ho] with Ho
  · isplitr; · iexact Hc
    iexact Ho
  imod (B4_upd (ctx G T K) _ _ (xs_over G T K c)) $$ [Hxs] with Hxs
  · isplitr; · iexact Hc
    iexact Hxs
  imod (B4_upd (ctx G T K) _ _ (xr_over G T K c)) $$ [Hxr] with Hxr
  · isplitr; · iexact Hc
    iexact Hxr
  imod (all_upd (ctx G T K) _ _ fun s : Fin 7 => B4_upd (ctx G T K) _ _ fun l => snd_over G T K c l s.val s.isLt) $$ [Hsn] with Hsn
  · isplitr; · iexact Hc
    iexact Hsn
  imod (all_upd (ctx G T K) _ _ fun s : Fin 7 => B4_upd (ctx G T K) _ _ fun l => rcv_over G T K c l s.val s.isLt) $$ [Hrv] with Hrv
  · isplitr; · iexact Hc
    iexact Hrv
  imod (B4_upd (ctx G T K) _ _ (snd_idle G T K c)) $$ [Hi1] with Hi1
  · isplitr; · iexact Hc
    iexact Hi1
  imod (B4_upd (ctx G T K) _ _ (rcv_idle G T K c)) $$ [Hi2] with Hi2
  · isplitr; · iexact Hc
    iexact Hi2
  imodintro
  unfold ended
  isplitl [Hb]; · iexact Hb
  isplitl [Ho Hxs Hxr Hsn Hrv Hi1 Hi2]
  · unfold fam
    isplitl [Ho]; · iexact Ho
    isplitl [Hxs]; · iexact Hxs
    isplitl [Hxr]; · iexact Hxr
    isplitl [Hsn Hi1]
    · iapply (Entails.of_eq (s8l (fun s => B4 fun l => semVal (sndC c l s) 0)).symm)
      isplitl [Hsn]; · iexact Hsn
      iexact Hi1
    iapply (Entails.of_eq (s8h (fun s => B4 fun l => semVal (rcvC c l s) 0)).symm)
    isplitl [Hi2]; · iexact Hi2
    iexact Hrv
  isplitl [Hs Hr HL HR]
  · unfold work
    isplitl [Hs]
    · iapply (glue_sT c)
      iapply (B4_mono _ _ fun l => anyT_of (m := sT l) (G c l)); iexact Hs
    isplitl [Hr]
    · iapply (glue_rT c)
      iapply (B4_mono _ _ fun l => anyT_of (m := rT l) (G (par c) l)); iexact Hr
    iapply (slots_back T c)
    isplitl [HL]; · iexact HL
    iexact HR
  iapply (glue_oT c T)
  iapply (Entails.of_eq (B4_swap (n := 8) fun l s => owns (c : Thread nD τ) (oT c l s.val) fullShare (T (org c l s.val) l)).symm)
  iexact HO

/-! ## The counters given their protocol -/

/-- What a device keeps of the launch until it enters the kernel, -/
def kept : sProp 𝕄 := iprop(∃ K, ctx G T K ∗ (BI.bigSep Finset.univ fun j : J => openTok ER ((c : Thread nD τ), osem j)) ∗ launchIn c)
/-- and what it then has. -/
def opened : sProp 𝕄 := iprop(∃ K, ctx G T K ∗ fam c (fun g => atPos ER g 0 ∅ 0) ∗ fam c (fun g => reached ER g 0) ∗ launchIn c)

theorem open_one (j : J) : iprop(ctx G T K ∗ (openTok ER ((c : Thread nD τ), osem j) ∗ semVal ((c : Thread nD τ), osem j) 0))
    ⊢ (|={Set.univ}=> iprop(atPos ER ((c : Thread nD τ), osem j) 0 ∅ 0 ∗ reached ER ((c : Thread nD τ), osem j) 0) : sProp 𝕄) := by
  iintro ⟨#Hc, Ho, Hs⟩
  iapply (Rounds.cell_open ER (Rd G T) (g := ((c : Thread nD τ), osem j)) (Set.mem_univ (K ((c : Thread nD τ), osem j))))
  isplitr; · iapply (ctx_cell G T K _ (mem_cells c (osem j) (osem_cell j))); iexact Hc
  isplitl [Ho]; · iexact Ho
  iexact Hs

theorem hopen : iprop(kept G T c ∗ Pipeline.ownSems0 osem c ∗ levAts L lv) ⊢ (|={Set.univ}=> opened G T c : sProp 𝕄) := by
  unfold kept opened Pipeline.ownSems0
  iintro ⟨⟨%K, #Hc, Ho, Hl⟩, Hs, -⟩
  imod (all_upd (ctx G T K) _ _ (open_one G T K c)) $$ [Ho Hs] with H
  · isplitr; · iexact Hc
    iapply (Entails.of_eq (bs Finset.univ (fun j : J => openTok ER ((c : Thread nD τ), osem j)) (fun j : J => semVal ((c : Thread nD τ), osem j) 0)).symm)
    isplitl [Ho]; · iexact Ho
    iexact Hs
  imodintro
  iexists K
  isplitr; · iexact Hc
  ihave H := (Entails.of_eq (fam_eq c (fun g => iprop(atPos ER g 0 ∅ 0 ∗ reached ER g 0)))) $$ H
  ihave H := (Entails.of_eq (fam_sep c (fun g => atPos ER g 0 ∅ 0) (fun g => reached ER g 0))) $$ H
  icases H with ⟨H1, H2⟩
  isplitl [H1]; · iexact H1
  isplitl [H2]; · iexact H2
  iexact Hl

end Cert.KernelIdeal.Wg

end
-- ==== Proof.KI.Eq.lean ====
/- The printed body is the rows. -/
module

public import proofs.«01_k».proof.Proof.KI.Prog

@[expose] public section

noncomputable section

namespace Cert.KernelIdeal.Wg

open Idealize.ShloMosaic Idealize.SL.Sem Cert.KernelIdeal.Gen

variable {F : FTy → Type} [FloatOps F]

set_option maxRecDepth 65536 in
set_option maxHeartbeats 0 in
theorem body_eq (t : Fin cfg0.N) :
    bodyAt0 (F := F) t = body (win0_0.stage (cfg0.slots t 0)) (win0_1.stage (cfg0.slots t 1)) := by
  unfold bodyAt0 body
  rfl

end Cert.KernelIdeal.Wg

end
-- ==== Proof.KI.Region.lean ====
/- The kernel as one step of a device's program: what it is entered with, what it leaves. -/
module

public import proofs.«01_k».proof.Proof.KI.Finish
public import proofs.«01_k».proof.Proof.KI.Eq
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.FrameBody

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

variable (m : (ℓ : Loc nD τ sig) → Buf (Elt F) ℓ)

/-! ## The blocks a device works on -/

/-- The device's rows of the first argument, -/
def blkA (c : Dev nD) : S2048x2048.Idx → Elt F .bf16 := ((cfg0.win 0).blk t0_0).view.read (Elt F) (V3 m c (Pipeline.arrRef spec0 0))
/-- and the block of columns of the second that it takes. -/
def blkB (c : Dev nD) : S2048x1024.Idx → Elt F .bf16 := ((cfg0.win 1).blk t0_0).view.read (Elt F) (V3 m c (Pipeline.arrRef spec0 1))

/-- What a device places for its partner, and its own sums. -/
abbrev GG : Dev nD → Fin 4 → S1024x256.Idx → Elt F .bf16 := Gv (blkA m) (blkB m)
abbrev TT : Dev nD → Fin 4 → S1024x256.Idx → Elt F .bf16 := Tv (blkA m) (blkB m)

/-- What the kernel leaves. -/
def outs : Outs (F := F) := fun _ r c => Function.update (V3 m c) (Proc.devRef .tc main_v17) (outBuf c (TT m)) (Proc.devRef .tc r)
theorem V4_out (c : Dev nD) : V4 m (outs m) c (Proc.devRef .tc main_v17) = outBuf c (TT m) := by
  show Function.update (V3 m c) main_v17 (outs m 4 main_v17 c) (Proc.devRef .tc main_v17) = _
  rw [Function.update_self]; unfold outs; rw [Function.update_self]

/-! ## The proof data -/

def before0 (c : Dev nD) : sProp 𝕄 :=
  iprop(opened (GG m) (TT m) c ∗ work c ∗ (((c : Thread nD τ).loc main_v17) ↦{fullShare} V3 m c (Proc.devRef .tc main_v17)) ∗ ∃ r, prngReg c r)
def after0 (c : Dev nD) : sProp 𝕄 := iprop(ended (TT m) c ∗ ∃ r, prngReg c r)

def dat0 (c : Dev nD) : Pipeline.Dat τ (Elt F) Unit ℕ UU ℕ cfg0 c where
  A w := V3 m c (Pipeline.arrRef spec0 w)
  after w _ := match w with
    | 0 => blkA m c
    | 1 => blkB m c
  Φ t := if t.val = 0 then before0 m c else after0 m c
  q _ := fullShare
  owed t := if t.val = 0 then owed c 0 else 0

def pdats : (p : Fin 1) → (c : Dev nD) → Pipeline.Dat τ (Elt F) Unit ℕ UU ℕ (cfgs p) c
  | 0 => dat0 m

theorem Phi_first (c : Dev nD) : (dat0 m c).Φ t0_0.castSucc = before0 m c := by
  show (if (t0_0.castSucc : Fin (cfg0.N + 1)).val = 0 then before0 m c else after0 m c) = _; exact if_pos rfl
theorem Phi_zero (c : Dev nD) : (dat0 m c).Φ 0 = before0 m c := by
  show (if (0 : Fin (cfg0.N + 1)).val = 0 then before0 m c else after0 m c) = _; exact if_pos rfl
theorem Phi_last (c : Dev nD) : (dat0 m c).Φ (Fin.last cfg0.N) = after0 m c := by
  show (if (Fin.last cfg0.N).val = 0 then before0 m c else after0 m c) = _; exact if_neg (by rw [Fin.val_last, show cfg0.N = 1 from N_0]; decide)
theorem succ_t0 : (t0_0 : Fin cfg0.N).succ = Fin.last cfg0.N := Fin.ext (by rw [Fin.val_last, show cfg0.N = 1 from N_0]; rfl)
theorem dat_owed_first (c : Dev nD) : (dat0 m c).owed t0_0.castSucc = owed c 0 := by
  show (if (t0_0.castSucc : Fin (cfg0.N + 1)).val = 0 then owed c 0 else 0) = _; exact if_pos rfl
theorem dat_owed_zero (c : Dev nD) : (dat0 m c).owed 0 = owed c 0 := by
  show (if (0 : Fin (cfg0.N + 1)).val = 0 then owed c 0 else 0) = _; exact if_pos rfl
theorem dat_owed_last (c : Dev nD) : (dat0 m c).owed (Fin.last cfg0.N) = 0 := by
  show (if (Fin.last cfg0.N).val = 0 then owed c 0 else 0) = 0; exact if_neg (by rw [Fin.val_last, show cfg0.N = 1 from N_0]; decide)

section Owes
variable {cfg : Pipeline.Cfg sig Λ₀} {c : Dev nD} (dat : Pipeline.Dat τ (Elt F) Unit ℕ UU ℕ cfg c) (t : Fin (cfg.N + 1)) (O : CellTallies nD τ sig Unit)
theorem dues_take (h : dat.owed t = O) : (dat.owesAt () t : sProp 𝕄) ⊢ iprop(∃ W, owes (c : Thread nD τ) O W) := by
  unfold Pipeline.Dat.owesAt Pipeline.owesWithin; rw [h]
  iintro ⟨%W, -, H⟩; iexists W; iexact H
theorem dues_give (h : dat.owed t = O) (hr : dat.recorded t = Set.univ) : iprop(∃ W, owes (c : Thread nD τ) O W) ⊢ (dat.owesAt () t : sProp 𝕄) := by
  unfold Pipeline.Dat.owesAt Pipeline.owesWithin Pipeline.Dat.bound; rw [h, hr]
  iintro ⟨%W, H⟩; iexists W; isplitr; · ipureintro; exact fun _ _ => Or.inl trivial
  iexact H
end Owes

theorem before_0 (c : Dev nD) (d) : (dat0 m c).before 0 t0_0 d = blkA m c := by rw [Pipeline.Dat.before_fetched _ _ _ (fetch0_0 t0_0)]; rfl
theorem before_1 (c : Dev nD) (d) : (dat0 m c).before 1 t0_0 d = blkB m c := by rw [Pipeline.Dat.before_fetched _ _ _ (fetch0_1 t0_0)]; rfl

/-! ## The kernel's one point -/

theorem point (c : Dev nD) (A0 : Memref sig .tc .vmem S2048x2048 .bf16) (A1 : Memref sig .tc .vmem S2048x1024 .bf16) :
    iprop(before0 m c ∗ owing c 0 ∗ owns (c : Thread nD τ) A0 fullShare (blkA m c) ∗ owns (c : Thread nD τ) A1 fullShare (blkB m c))
      ⊢ wp frame (wpE (defs₀ (F := F)) 𝒱₀ (c : Thread nD τ) none) Set.univ (body A0 A1)
          fun _ => iprop(after0 m c ∗ owing c 35 ∗ owns (c : Thread nD τ) A0 fullShare (blkA m c) ∗ owns (c : Thread nD τ) A1 fullShare (blkB m c)) := by
  refine .trans ?_ (Idealize.SL.Sem.wp_fupd frame (wpE (defs₀ (F := F)) 𝒱₀ (c : Thread nD τ) none) Set.univ _ _)
  unfold before0 opened after0
  iintro ⟨⟨⟨%K, #Hc, Hat, Hre, Hl⟩, Hw, Ho, Hp⟩, HO, HA, HB⟩
  ihave Ht := (tiles_of c (V3 m c (Proc.devRef .tc main_v17))) $$ [Hw Ho]
  · isplitl [Hw] <;> iassumption
  ihave Hin := (Entails.of_eq (bodyIn_eq c)) $$ [Hl Hat Hre Ht]
  · isplitl [Hl]; · iexact Hl
    isplitl [Hat]; · iexact Hat
    isplitl [Hre]; · iexact Hre
    iexact Ht
  icases Hin with ⟨Hin, Hidle, -⟩
  have e := body_row (blkA m) (blkB m) K c A0 A1
    (fun _ => iprop(|={Set.univ}=> ((ended (TT m) c ∗ ∃ r, prngReg c r) ∗ owing c 35 ∗ owns (c : Thread nD τ) A0 fullShare (blkA m c) ∗ owns (c : Thread nD τ) A1 fullShare (blkB m c))))
  unfold runs at e
  iapply e
  isplitr; · iexact Hc
  isplitl [Hin]; · iexact Hin
  isplitl [HA]; · iexact HA
  isplitl [HB]; · iexact HB
  isplitl [HO]; · iexact HO
  iintro ⟨Hend, HA, HB, HO⟩
  imod (finish (GG m) (TT m) K c) $$ [Hend Hidle] with Hd
  · isplitr; · iexact Hc
    isplitl [Hend]; · iexact Hend
    iexact Hidle
  imodintro
  isplitl [Hd Hp]
  · isplitl [Hd]; · iexact Hd
    iexact Hp
  isplitl [HO]; · iexact HO
  isplitl [HA]; · iexact HA
  iexact HB

theorem defs_row (t : Fin cfg0.N) : defs₀ (F := F) .tc cfg0.body (cfg0.bodyArgs t (cfg0.slots t)) = bodyAt0 t := by
  unfold defs₀; rw [Defs.onTc_tc]

set_option maxRecDepth 65536 in
theorem body_ok (c : Dev nD) : Pipeline.BodyObligation (dat0 m c) defs₀ 𝒱₀ () Set.univ := fun t => by
  obtain rfl := fin_N0 t
  rw [bigSep_W0, bigSep_W0]
  rewrite [succ_t0, Phi_first m c, Phi_last m c]
  rewrite [defs_row]
  rewrite [body_eq]
  show iprop(before0 m c ∗ (dat0 m c).owesAt () t0_0.castSucc
        ∗ ((∃ d, owns (c : Thread nD τ) ((cfg0.win 0).stage (cfg0.slots t0_0 0)) fullShare ((dat0 m c).before 0 t0_0 d))
          ∗ (∃ d, owns (c : Thread nD τ) ((cfg0.win 1).stage (cfg0.slots t0_0 1)) fullShare ((dat0 m c).before 1 t0_0 d))))
      ⊢ wp frame (wpE (defs₀ (F := F)) 𝒱₀ (c : Thread nD τ) none) Set.univ (body (win0_0.stage (cfg0.slots t0_0 0)) (win0_1.stage (cfg0.slots t0_0 1)))
          fun _ => iprop(after0 m c ∗ (dat0 m c).owesAt () (Fin.last cfg0.N)
            ∗ (owns (c : Thread nD τ) ((cfg0.win 0).stage (cfg0.slots t0_0 0)) fullShare (blkA m c)
              ∗ owns (c : Thread nD τ) ((cfg0.win 1).stage (cfg0.slots t0_0 1)) fullShare (blkB m c)))
  iintro ⟨HP, HO, ⟨%d0, HA⟩, ⟨%d1, HB⟩⟩
  rw [before_0 m c d0, before_1 m c d1]
  ihave HO := (dues_take (dat0 m c) _ _ (dat_owed_first m c)) $$ HO
  iapply (wp_wand_r frame (wpE (defs₀ (F := F)) 𝒱₀ (c : Thread nD τ) none) Set.univ)
  isplitl [HP HO HA HB]
  · iapply (point m c)
    isplitl [HP]; · iexact HP
    isplitl [HO]; · unfold owing; iexact HO
    isplitl [HA]; · iexact HA
    iexact HB
  iintro %_ ⟨HP, HO, HA, HB⟩
  isplitl [HP]; · iexact HP
  isplitl [HO]
  · iapply (dues_give (dat0 m c) _ _ (dat_owed_last m c) rfl)
    unfold owing; rw [owed_end]; iexact HO
  isplitl [HA]; · iexact HA
  iexact HB

/-! ## The kernel as a stretch of the program -/

theorem own_facts : Pipeline.OwnSemFacts spec0 osem where
  isScoped := by decide +kernel
  inj := osem_inj
  disj := by decide +kernel

/-- The other buffers the program holds throughout; the kernel's result among them. -/
def rest : Finset (DevRef τ sig) := Pipeline.ucRefs τ sig \ Pipeline.arrRefs (τ := τ) spec0
def outRef : Finset (DevRef τ sig) := {Proc.devRef .tc main_v17}
theorem out_in : outRef ⊆ rest := by decide +kernel
theorem arr_in : Pipeline.arrRefs (τ := τ) spec0 ⊆ Pipeline.ucRefs τ sig := by decide +kernel

theorem held_out (c : Dev nD) (V : Valuation τ sig (Elt F)) :
    (StableHlo.held (c : Thread nD τ) outRef V : sProp 𝕄) = (((c : Thread nD τ).loc main_v17) ↦{fullShare} V (Proc.devRef .tc main_v17)) := by
  unfold StableHlo.held outRef; rw [BI.bigSep_singleton]
theorem held_all (c : Dev nD) (V : Valuation τ sig (Elt F)) :
    (StableHlo.held (c : Thread nD τ) (Pipeline.ucRefs τ sig) V : sProp 𝕄)
      = iprop(StableHlo.held (c : Thread nD τ) (Pipeline.arrRefs (τ := τ) spec0) V ∗ StableHlo.held (c : Thread nD τ) rest V) :=
  StableHlo.held_sub_split (c : Thread nD τ) arr_in V

theorem cut (c : Dev nD) (t : Fin (cfg0.N + 1)) (g : GSem nD τ sig) (u : Unit) (h : 0 < (dat0 m c).owed t g u) : u ∈ L g ∧ 0 < lv g u := by
  have e : (dat0 m c).owed t = if t.val = 0 then owed c 0 else 0 := rfl
  rw [e] at h
  split at h
  · obtain ⟨j, _, hj, rfl⟩ := owed_pos c 0 g u h
    refine ⟨payC_tc c j, ?_⟩
    rw [show u = () from rfl, payC_lv c j hj]
    split; · decide
    split <;> omega
  · exact absurd h (Nat.lt_irrefl 0)

theorem stage_level : ∀ (w : Fin 2) (s : Fin (spec0 w).nbuf), klv (kind ((spec0 w).sem s)) = 0 := by decide +kernel

def bar0 (c : Dev nD) : sProp 𝕄 := semVal (barC c) 0

theorem own_fam (c : Dev nD) : (Pipeline.ownSems0 osem c : sProp 𝕄) = fam c (fun g => semVal g 0) := fam_eq c (fun g => semVal g 0)

theorem work_eq (c : Dev nD) : (Pipeline.scopedRest spec0 c : sProp 𝕄) = work c := scopedRest0_eq c

theorem enter (c : Dev nD) :
    iprop(Pipeline.scopedRest spec0 c ∗ (∃ r, prngReg c r) ∗ StableHlo.held (c : Thread nD τ) outRef (V3 m c) ∗ opened (GG m) (TT m) c)
      ⊢ (dat0 m c).Φ 0 := by
  rw [Phi_zero, work_eq, held_out]; unfold before0
  iintro ⟨Hw, Hp, Ho, Hg⟩
  isplitl [Hg]; · iexact Hg
  isplitl [Hw]; · iexact Hw
  isplitl [Ho]; · iexact Ho
  iexact Hp

theorem leave (c : Dev nD) :
    (dat0 m c).Φ (Fin.last cfg0.N)
      ⊢ iprop(Pipeline.scopedRest spec0 c ∗ (∃ r, prngReg c r) ∗ StableHlo.held (c : Thread nD τ) outRef (V4 m (outs m) c)
        ∗ Pipeline.ownSems0 osem c ∗ bar0 c) := by
  rw [Phi_last, work_eq, held_out, V4_out, own_fam]; unfold after0 ended bar0
  iintro ⟨⟨Hb, Hs, Hw, Ho⟩, Hp⟩
  isplitl [Hw]; · iexact Hw
  isplitl [Hp]; · iexact Hp
  isplitl [Ho]; · iexact Ho
  isplitl [Hs]; · iexact Hs
  iexact Hb

theorem arr_first (c : Dev nD) : ∀ w : Fin 2, (dat0 m c).arrAt w 0 = V3 m c (Proc.devRef .tc (Pipeline.arrRef spec0 w))
  | 0 => (dat0 m c).arrAt_in 0 rfl 0
  | 1 => (dat0 m c).arrAt_in 1 rfl 0
theorem arr_last (c : Dev nD) : ∀ w : Fin 2, (dat0 m c).arrAt w cfg0.N = V4 m (outs m) c (Proc.devRef .tc (Pipeline.arrRef spec0 w))
  | 0 => ((dat0 m c).arrAt_in 0 rfl _).trans (V4_of m (outs m) c (Pipeline.arrRef spec0 0) (by decide)).symm
  | 1 => ((dat0 m c).arrAt_in 1 rfl _).trans (V4_of m (outs m) c (Pipeline.arrRef spec0 1) (by decide)).symm
theorem all_full (c : Dev nD) : ∀ w : Fin 2, (dat0 m c).share w = fullShare
  | 0 => rfl
  | 1 => rfl
theorem kept_off (c : Dev nD) : ∀ b ∈ rest \ outRef, V4 m (outs m) c b = V3 m c b := fun b hb => by
  show Function.update (V3 m c) main_v17 (outs m 4 main_v17 c) b = _
  exact Function.update_of_ne (fun h => (Finset.mem_sdiff.mp hb).2 (by rw [h]; exact Finset.mem_singleton_self _)) _ _

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts outRef rest out_in launch0.toP rfl
    (fun c => (body_ok m c).loose) (fun _ => 0) (fun c => owed c 0) (fun c => (dat_owed_zero m c).trans (zero_add _).symm) (dat_owed_last m)
    (fun _ => rfl) (all_full m) (V3 m) (V4 m (outs m)) (kept_off m) (kept (GG m) (TT m)) bar0 (opened (GG m) (TT m)) bar0
    (hopen (GG m) (TT m)) (enter m) (leave m) (fun c => by iintro H; imodintro; iexact H) (fun _ => 0)
    ⟨fun c w s => by rw [L_tc]; exact Finset.mem_singleton_self _, fun c w s => Nat.le_of_eq (stage_level w s), fun c t g i h => cut m c t g i h⟩
    (fun _ => iprop(emp)) (arr_first m) (arr_last m)

/-- What the program carries beside its buffers, before the kernel and after it. -/
def E (n : Fin 2) (c : Dev nD) : sProp 𝕄 :=
  if n = 0 then iprop(kept (GG m) (TT m) c ∗ (∃ r, prngReg c r) ∗ ∃ W, owes (c : Thread nD τ) (owed c 0) W)
  else iprop(bar0 c ∗ ∃ W, owes (c : Thread nD τ) (0 : CellTallies nD τ sig Unit) W)

theorem reg0_pre (c : Dev nD) : iprop(StableHlo.held (c : Thread nD τ) (Pipeline.ucRefs τ sig) (V3 m c) ∗ E m 0 c) ⊢ (reg0 m).pre c := by
  show _ ⊢ iprop(StableHlo.held (c : Thread nD τ) (Pipeline.arrRefs (τ := τ) spec0) (V3 m c) ∗ (∃ r, prngReg c r)
    ∗ (StableHlo.held (c : Thread nD τ) rest (V3 m c) ∗ emp) ∗ kept (GG m) (TT m) c ∗ ∃ Wd, owes (c : Thread nD τ) (0 + owed c 0) Wd)
  rw [held_all, zero_add]
  unfold E; rw [if_pos rfl]
  iintro ⟨⟨Ha, Hr⟩, Hk, Hp, HO⟩
  isplitl [Ha]; · iexact Ha
  isplitl [Hp]; · iexact Hp
  isplitl [Hr]
  · isplitl [Hr]; · iexact Hr
    iempintro
  isplitl [Hk]; · iexact Hk
  iexact HO

theorem reg0_post (c : Dev nD) : (reg0 m).post c ⊢ iprop(StableHlo.held (c : Thread nD τ) (Pipeline.ucRefs τ sig) (V4 m (outs m) c) ∗ E m 1 c) := by
  show iprop(StableHlo.held (c : Thread nD τ) (Pipeline.arrRefs (τ := τ) spec0) (V4 m (outs m) c) ∗ (∃ r, prngReg c r)
    ∗ (StableHlo.held (c : Thread nD τ) rest (V4 m (outs m) c) ∗ emp) ∗ bar0 c ∗ ∃ Wd, owes (c : Thread nD τ) (0 : CellTallies nD τ sig Unit) Wd) ⊢ _
  rw [held_all]
  unfold E; rw [if_neg (by decide)]
  iintro ⟨Ha, -, ⟨Hr, -⟩, Hb, HO⟩
  isplitl [Ha Hr]; · isplitl [Ha] <;> iassumption
  isplitl [Hb]; · iexact Hb
  iexact HO

end Cert.KernelIdeal.Wg

end
-- ==== Proof.KI.Fund.lean ====
/- The protocol's counters and tokens dealt to the devices when the program starts. -/
module

public import proofs.«01_k».proof.Proof.KI.Finish
public import Idealize.ShloMosaic.Lib.Pipeline.Regions

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## The devices turned around -/

def parE : Dev nD ≃ Dev nD := ⟨par, par, par_par, par_par⟩
def rgtE : Dev nD ≃ Dev nD := ⟨rgt, lft, lft_rgt, rgt_lft⟩
def lftE : Dev nD ≃ Dev nD := ⟨lft, rgt, rgt_lft, lft_rgt⟩
def nxtE (l : Fin 4) : Dev nD ≃ Dev nD := ⟨nxt l, prv l, prv_nxt l, nxt_prv l⟩

theorem turn_B4 (e : Fin 4 → Dev nD ≃ Dev nD) (Φ : Dev nD → Fin 4 → sProp 𝕄) :
    (BI.bigSep Finset.univ fun c : Dev nD => B4 (Φ c)) = BI.bigSep Finset.univ fun c : Dev nD => B4 fun l => Φ (e l c) l := by
  have h : (BI.bigSep Finset.univ fun c : Dev nD => BI.bigSep Finset.univ (Φ c))
      = BI.bigSep Finset.univ fun c : Dev nD => BI.bigSep Finset.univ fun l => Φ (e l c) l := by
    rw [BI.bigSep_univ_comm Φ, BI.bigSep_univ_comm fun (c : Dev nD) l => Φ (e l c) l]
    exact congrArg _ (funext fun l => BI.bigSep_univ_equiv (e l) fun c => Φ c l)
  rw [show (fun c : Dev nD => B4 (Φ c)) = fun c : Dev nD => BI.bigSep Finset.univ (Φ c) from funext fun c => B4_eq _, h]
  exact congrArg _ (funext fun c => (B4_eq _).symm)
theorem turn_hops {n : ℕ} (e : Fin 4 → Dev nD ≃ Dev nD) (Φ : Dev nD → Fin n → Fin 4 → sProp 𝕄) :
    (BI.bigSep Finset.univ fun c : Dev nD => BI.bigSep Finset.univ fun s => B4 (Φ c s))
      = BI.bigSep Finset.univ fun c : Dev nD => BI.bigSep Finset.univ fun s => B4 fun l => Φ (e l c) s l := by
  rw [BI.bigSep_univ_comm fun (c : Dev nD) s => B4 (Φ c s), BI.bigSep_univ_comm fun (c : Dev nD) s => B4 fun l => Φ (e l c) s l]
  exact congrArg _ (funext fun s => turn_B4 e fun c => Φ c s)

/-! ## What a device is owed -/

/-- The raises: three of the counter all start from, the partner's four, the seven hops' four. -/
abbrev Raise : Type := Fin 3 ⊕ Fin 4 ⊕ (Fin 7 × Fin 4)
def nth : Raise → ℕ
  | .inl d => d.val
  | .inr (.inl l) => 3 + l.val
  | .inr (.inr t) => 7 + 4 * t.1.val + t.2.val
theorem nth_inj : Function.Injective nth := by decide +kernel
theorem nth_all : (Finset.univ : Finset Raise).map ⟨nth, nth_inj⟩ = Finset.Ico 0 35 := by decide +kernel
/-- The counter of the device that one of them raises, -/
def dueC (c : Dev nD) : Raise → GSem nD τ sig
  | .inl _ => barC c
  | .inr (.inl l) => xrC c l
  | .inr (.inr t) => rcvC c t.2 (t.1.val + 1)
/-- by how much, -/
def dueN : Raise → ℕ
  | .inl _ => 1
  | .inr _ => N
/-- and on which device a device raises it. -/
def turn : Raise → Dev nD ≃ Dev nD
  | .inl 0 => parE
  | .inl 1 => rgtE
  | .inl 2 => lftE
  | .inr (.inl _) => parE
  | .inr (.inr t) => nxtE t.2
theorem payC_nth (c : Dev nD) : ∀ p : Raise, payC c (nth p) = dueC (turn p c) p
  | .inl 0 => rfl
  | .inl 1 => rfl
  | .inl 2 => rfl
  | .inr (.inl l) => payC_xr c l
  | .inr (.inr t) => payC_rcv c t.2 t.1.val
theorem payN_nth : ∀ p : Raise, payN (nth p) = dueN p
  | .inl 0 => rfl
  | .inl 1 => rfl
  | .inl 2 => rfl
  | .inr (.inl l) => payN_xr l
  | .inr (.inr t) => payN_rcv t.2 t.1.val

def dues (c : Dev nD) : CellTallies nD τ sig Unit := ∑ p : Raise, tallyAt (dueC c p) () (dueN p)
theorem owed_all (c : Dev nD) : owed c 0 = ∑ p : Raise, tallyAt (dueC (turn p c) p) () (dueN p) := by
  unfold owed; rw [← nth_all, Finset.sum_map]
  exact Finset.sum_congr rfl fun p _ => by
    show tallyAt (payC c (nth p)) () (payN (nth p)) = _
    rw [payC_nth, payN_nth]
theorem owed_dues : (∑ d : Dev nD, owed d 0) = ∑ d : Dev nD, dues d := by
  rw [Finset.sum_congr rfl fun d _ => owed_all d]
  unfold dues
  rw [Finset.sum_comm, Finset.sum_comm (f := fun (d : Dev nD) (p : Raise) => tallyAt (dueC d p) () (dueN p))]
  exact Finset.sum_congr rfl fun p _ => Equiv.sum_comp (turn p) fun d => tallyAt (dueC d p) () (dueN p)
theorem dueC_own (c : Dev nD) : ∀ p : Raise, (dueC c p).1 = (c : Thread nD τ)
  | .inl _ => rfl
  | .inr (.inl _) => rfl
  | .inr (.inr _) => rfl
theorem dues_own (c : Dev nD) (g : GSem nD τ sig) (h : dues c g ≠ 0) : g.1 = (c : Thread nD τ) := by
  unfold dues at h
  rw [Finset.sum_apply] at h
  obtain ⟨p, _, hp⟩ := Finset.exists_ne_zero_of_sum_ne_zero h
  by_contra hn
  exact hp (tallyAt_ne_cell (fun e => hn ((congrArg Prod.fst e).trans (dueC_own c p))) () _)

theorem B4_fun {n : ℕ} (Φ : Fin n → Fin 4 → sProp 𝕄) :
    (BI.bigSep Finset.univ fun s => BI.bigSep Finset.univ (Φ s)) = BI.bigSep Finset.univ fun s => B4 (Φ s) :=
  congrArg _ (funext fun s => (B4_eq _).symm)

theorem list3 (Φ : Fin 3 → sProp 𝕄) : BI.bigSep Finset.univ Φ = iprop(Φ 0 ∗ Φ 1 ∗ Φ 2) :=
  (BI.bigSep_univ_eq_bigSepL [0, 1, 2] (by decide) (by decide) Φ).trans rfl

theorem three (g : GSem nD τ sig) :
    (iprop(cred (tallyAt g () 1) ∗ cred (tallyAt g () 1) ∗ cred (tallyAt g () 1)) : sProp 𝕄) ⊢ cred (tallyAt g () 3) := by
  have h2 : (iprop(cred (tallyAt g () 1) ∗ cred (tallyAt g () 1)) : sProp 𝕄) ⊢ cred (tallyAt g () 2) :=
    (cred_add _ _).2.trans (Entails.of_eq (by rw [tallyAt_add]))
  have h3 : (iprop(cred (tallyAt g () 1) ∗ cred (tallyAt g () 2)) : sProp 𝕄) ⊢ cred (tallyAt g () 3) :=
    (cred_add _ _).2.trans (Entails.of_eq (by rw [tallyAt_add]))
  exact (BI.sep_mono (BI.Entails.refl _) h2).trans h3

/-- The credit a device starts with. -/
def credIn (c : Dev nD) : sProp 𝕄 :=
  iprop(cred (tallyAt (barC c) () 3) ∗ B4 (fun l => cred (tallyAt (xrC c l) () N))
    ∗ (BI.bigSep Finset.univ fun s : Fin 7 => B4 fun l => cred (tallyAt (rcvC c l (s.val + 1)) () N)))

theorem cred_in (c : Dev nD) : (Pipeline.launchCred (fun d => owed d 0) c : sProp 𝕄) ⊢ credIn c := by
  rw [Pipeline.launchCred_of_sum (fun d => owed d 0) dues owed_dues dues_own c]
  unfold dues
  rw [Pipeline.cred_finsetSum, BI.bigSep_univ_sum, BI.bigSep_univ_sum, BI.bigSep_univ_prod, list3]
  unfold credIn
  refine BI.sep_mono (three (barC c)) (BI.sep_mono ?_ ?_)
  · rw [B4_eq]; exact BI.Entails.refl _
  · exact Entails.of_eq (B4_fun (F := F) fun (s : Fin 7) l => cred (tallyAt (rcvC c l (s.val + 1)) () N))

/-! ## The tokens dealt -/

/-- A device's duties: the three raises of its first counter, then those of its lanes' counters. -/
abbrev Duty : Type := Fin 3 ⊕ Fin 4 ⊕ Fin 4 ⊕ (Fin 7 × Fin 4) ⊕ (Fin 7 × Fin 4) ⊕ (Fin 8 × Fin 4)
def duty : Duty → SemLoc sig × ℕ × Fin 3
  | .inl d => (.reg barrier0, 0, d)
  | .inr (.inl l) => (.dma (xsS l), 0, 0)
  | .inr (.inr (.inl l)) => (.dma (xrS l), 0, 0)
  | .inr (.inr (.inr (.inl t))) => (.dma (sndS t.2 t.1.val), 0, 0)
  | .inr (.inr (.inr (.inr (.inl t)))) => (.dma (rcvS t.2 (t.1.val + 1)), 0, 0)
  | .inr (.inr (.inr (.inr (.inr t)))) => (.dma (outS t.2), t.1.val, 0)
theorem duty_inj : Function.Injective duty := by decide +kernel
def tokE : Dev nD × Duty ↪ GSem nD τ sig × ℕ × Fin 3 :=
  ⟨fun x => (((x.1 : Thread nD τ), (duty x.2).1), (duty x.2).2), fun x y h =>
    Prod.ext (congrArg (fun t : GSem nD τ sig × ℕ × Fin 3 => t.1.1.1) h)
      (duty_inj (Prod.ext (congrArg (fun t : GSem nD τ sig × ℕ × Fin 3 => t.1.2) h) (congrArg (fun t : GSem nD τ sig × ℕ × Fin 3 => t.2) h)))⟩
def toks : Finset (GSem nD τ sig × ℕ × Fin 3) := Finset.univ.map tokE

/-- The tokens a device starts with: those of the raises it makes. -/
def tokIn (c : Dev nD) : sProp 𝕄 :=
  iprop((dutyTok ER (barC (par c)) 0 0 ∗ dutyTok ER (barC (rgt c)) 0 1 ∗ dutyTok ER (barC (lft c)) 0 2)
    ∗ B4 (fun l => dutyTok ER (xsC c l) 0 0) ∗ B4 (fun l => dutyTok ER (xrC (par c) l) 0 0)
    ∗ (BI.bigSep Finset.univ fun s : Fin 7 => B4 fun l => dutyTok ER (sndC c l s.val) 0 0)
    ∗ (BI.bigSep Finset.univ fun s : Fin 7 => B4 fun l => dutyTok ER (rcvC (nxt l c) l (s.val + 1)) 0 0)
    ∗ (BI.bigSep Finset.univ fun s : Fin 8 => B4 fun l => dutyTok ER (outC c l) s.val 0))
def tokOwn (c : Dev nD) : sProp 𝕄 :=
  iprop((dutyTok ER (barC c) 0 0 ∗ dutyTok ER (barC c) 0 1 ∗ dutyTok ER (barC c) 0 2)
    ∗ B4 (fun l => dutyTok ER (xsC c l) 0 0) ∗ B4 (fun l => dutyTok ER (xrC c l) 0 0)
    ∗ (BI.bigSep Finset.univ fun s : Fin 7 => B4 fun l => dutyTok ER (sndC c l s.val) 0 0)
    ∗ (BI.bigSep Finset.univ fun s : Fin 7 => B4 fun l => dutyTok ER (rcvC c l (s.val + 1)) 0 0)
    ∗ (BI.bigSep Finset.univ fun s : Fin 8 => B4 fun l => dutyTok ER (outC c l) s.val 0))

theorem toks_own : BI.bigSep toks (fun x => (dutyTok ER x.1 x.2.1 x.2.2 : sProp 𝕄)) = BI.bigSep Finset.univ fun c : Dev nD => tokOwn c := by
  unfold toks; rw [BI.bigSep_map, BI.bigSep_univ_prod]
  refine congrArg _ (funext fun c => ?_)
  rw [BI.bigSep_univ_sum, BI.bigSep_univ_sum, BI.bigSep_univ_sum, BI.bigSep_univ_sum, BI.bigSep_univ_sum, BI.bigSep_univ_prod, BI.bigSep_univ_prod, BI.bigSep_univ_prod,
    list3, ← B4_eq, ← B4_eq, B4_fun, B4_fun, B4_fun]
  rfl

theorem toks_in : (BI.bigSep Finset.univ fun c : Dev nD => (tokOwn c : sProp 𝕄)) = BI.bigSep Finset.univ fun c : Dev nD => tokIn c := by
  unfold tokOwn tokIn
  simp only [bs]
  rw [BI.bigSep_univ_equiv parE (fun c : Dev nD => (dutyTok ER (barC c) 0 0 : sProp 𝕄)),
    BI.bigSep_univ_equiv rgtE (fun c : Dev nD => (dutyTok ER (barC c) 0 1 : sProp 𝕄)),
    BI.bigSep_univ_equiv lftE (fun c : Dev nD => (dutyTok ER (barC c) 0 2 : sProp 𝕄)),
    turn_B4 (fun _ => parE) (fun (c : Dev nD) l => (dutyTok ER (xrC c l) 0 0 : sProp 𝕄)),
    turn_hops nxtE (fun (c : Dev nD) (s : Fin 7) l => (dutyTok ER (rcvC c l (s.val + 1)) 0 0 : sProp 𝕄))]
  rfl

/-! ## The counters -/

def barE : Dev nD ↪ GSem nD τ sig := ⟨fun c => barC c, fun _ _ h => congrArg (fun g : GSem nD τ sig => g.1.1) h⟩
def ownE : Dev nD × J ↪ GSem nD τ sig := ⟨fun x => ((x.1 : Thread nD τ), osem x.2), fun _ _ h =>
  Prod.ext (congrArg (fun g : GSem nD τ sig => g.1.1) h) (osem_inj (congrArg Prod.snd h))⟩
def barCells : Finset (GSem nD τ sig) := Finset.univ.map barE
def ownCells : Finset (GSem nD τ sig) := Finset.univ.map ownE
theorem osem_reg : ∀ j : J, osem j ≠ .reg barrier0
  | .inl _ => fun h => nomatch h
  | .inr (.inl _) => fun h => nomatch h
  | .inr (.inr (.inl _)) => fun h => nomatch h
  | .inr (.inr (.inr (.inl _))) => fun h => nomatch h
  | .inr (.inr (.inr (.inr _))) => fun h => nomatch h
theorem bar_own : Disjoint barCells ownCells := by
  rw [Finset.disjoint_left]
  intro g h h'
  obtain ⟨c, -, rfl⟩ := Finset.mem_map.mp h
  obtain ⟨x, -, h⟩ := Finset.mem_map.mp h'
  exact osem_reg x.2 (congrArg Prod.snd h)
theorem cells_in : cells ⊆ barCells ∪ ownCells := by
  intro g h
  obtain ⟨x, hx, rfl⟩ := Finset.mem_map.mp h
  obtain h | ⟨j, hj⟩ := cell_osem x.2 (Finset.mem_filter.mp (Finset.mem_product.mp hx).2).2
  · exact Finset.mem_union_left _ (Finset.mem_map.mpr ⟨x.1, Finset.mem_univ _, by show ((x.1 : Thread nD τ), SemLoc.reg barrier0) = ((x.1 : Thread nD τ), x.2); rw [h]⟩)
  · exact Finset.mem_union_right _ (Finset.mem_map.mpr ⟨(x.1, j), Finset.mem_univ _, by show ((x.1 : Thread nD τ), osem j) = ((x.1 : Thread nD τ), x.2); rw [hj]⟩)

variable (G T : Dev nD → Fin 4 → S1024x256.Idx → Elt F .bf16) (K : GSem nD τ sig → ℕ) (c : Dev nD)

/-- What every device may use. -/
def common : sProp 𝕄 := iprop(ctx G T K ∗ BI.bigSep barCells fun g => reached ER g 0)
instance common_persistent : BI.Persistent (common G T K) := by unfold common; infer_instance
theorem bar_reached (e : Dev nD) : (BI.bigSep barCells fun g => (reached ER g 0 : sProp 𝕄)) ⊢ reached ER (barC e) 0 :=
  BI.bigSep_elim (Φ := fun g => (reached ER g 0 : sProp 𝕄)) (Finset.mem_map_of_mem barE (Finset.mem_univ e))

/-- What one device gets. -/
def share : sProp 𝕄 :=
  iprop(atPos ER (barC c) 0 ∅ 0 ∗ (BI.bigSep Finset.univ fun j : J => openTok ER ((c : Thread nD τ), osem j)) ∗ tokIn c ∗ credIn c)

theorem kept_of : iprop(common G T K ∗ share c) ⊢ kept G T c := by
  unfold common share kept tokIn credIn launchIn shakeIn
  iintro ⟨⟨#Hc, #Hr⟩, Hat, Ho, ⟨⟨Hb0, Hb1, Hb2⟩, Hxs, Hxr, Hsnd, Hrcv, Hout⟩, ⟨Hcb, Hcx, Hcr⟩⟩
  iexists K
  isplitr; · iexact Hc
  isplitl [Ho]; · iexact Ho
  isplitl [Hat Hb0 Hb1 Hb2 Hcb]
  · isplitl [Hcb]; · iexact Hcb
    isplitl [Hat]; · iexact Hat
    isplitl [Hb0]
    · isplitl [Hb0]; · iexact Hb0
      iapply (bar_reached (F := F) (par c)); iexact Hr
    isplitl [Hb1]
    · isplitl [Hb1]; · iexact Hb1
      iapply (bar_reached (F := F) (rgt c)); iexact Hr
    isplitl [Hb2]; · iexact Hb2
    iapply (bar_reached (F := F) (lft c)); iexact Hr
  isplitl [Hxs]; · iexact Hxs
  isplitl [Hxr]; · iexact Hxr
  isplitl [Hcx]; · iexact Hcx
  isplitl [Hsnd]; · iexact Hsnd
  isplitl [Hrcv]; · iexact Hrcv
  isplitl [Hcr]; · iexact Hcr
  iexact Hout

/-- The counters' invariants made, and everything dealt. -/
theorem fund : iprop((BI.bigSep Finset.univ fun c : Dev nD => semVal (barC c) 0) ∗ (BI.bigSep Finset.univ fun c : Dev nD => credIn c)
      ∗ BI.own (ER (launchOf barCells ownCells toks)) ∗ levAts L lv)
    ⊢ (|={Set.univ}=> (BI.bigSep Finset.univ fun c : Dev nD => kept G T c) : sProp 𝕄) := by
  have hv : (BI.bigSep Finset.univ fun c : Dev nD => (semVal (barC c) 0 : sProp 𝕄)) ⊢ BI.bigSep barCells (fun g => (semVal g 0 : sProp 𝕄)) :=
    Entails.of_eq (BI.bigSep_map (s := Finset.univ) barE (Φ := fun g : GSem nD τ sig => (semVal g 0 : sProp 𝕄))).symm
  have ha : BI.bigSep barCells (fun g => (atPos ER g 0 ∅ 0 : sProp 𝕄)) ⊢ BI.bigSep Finset.univ fun c : Dev nD => (atPos ER (barC c) 0 ∅ 0 : sProp 𝕄) :=
    Entails.of_eq (BI.bigSep_map (s := Finset.univ) barE (Φ := fun g : GSem nD τ sig => (atPos ER g 0 ∅ 0 : sProp 𝕄)))
  have ho : BI.bigSep ownCells (fun g => (openTok ER g : sProp 𝕄))
      ⊢ BI.bigSep Finset.univ fun c : Dev nD => BI.bigSep Finset.univ fun j : J => (openTok ER ((c : Thread nD τ), osem j) : sProp 𝕄) :=
    Entails.of_eq ((BI.bigSep_map (s := Finset.univ) ownE (Φ := fun g : GSem nD τ sig => (openTok ER g : sProp 𝕄))).trans
      (BI.bigSep_univ_prod (fun x : Dev nD × J => (openTok ER ((x.1 : Thread nD τ), osem x.2) : sProp 𝕄))))
  have ht : BI.bigSep toks (fun x => (dutyTok ER x.1 x.2.1 x.2.2 : sProp 𝕄)) ⊢ BI.bigSep Finset.univ fun c : Dev nD => tokIn c :=
    Entails.of_eq (toks_own.trans toks_in)
  have hi : ∀ κ : GSem nD τ sig → ℕ, BI.bigSep (barCells ∪ ownCells) (fun g => (cellInv ER (Rd G T) (κ g) g : sProp 𝕄))
      ⊢ BI.bigSep cells fun g => (cellInv ER (Rd G T) (κ g) g : sProp 𝕄) := fun κ => BI.bigSep_subset cells_in
  iintro ⟨Hv, Hc, Hu, #Hl⟩
  imod (Rounds.fund_launch ER (Rd G T) bar_own (fun g _ h => h) toks) $$ [Hv Hu] with ⟨%κ, -, #Hi, #Hr, Ha, Ho, Ht⟩
  · isplitl [Hv]
    · iapply hv $$ Hv
    · iexact Hu
  imodintro
  have hk : ∀ c ∈ (Finset.univ : Finset (Dev nD)), iprop(common G T κ ∗ share c) ⊢ kept G T c := fun c _ => kept_of G T κ c
  iapply (BI.bigSep_with_persistent (R := common G T κ) (Φ := fun c : Dev nD => share c) (Ψ := fun c : Dev nD => kept G T c) hk)
  isplitr
  · unfold common ctx
    isplitr
    · isplitr
      · iapply (hi κ); iexact Hi
      iexact Hl
    iexact Hr
  have hs : (BI.bigSep Finset.univ fun c : Dev nD => (share c : sProp 𝕄))
      = iprop((BI.bigSep Finset.univ fun c : Dev nD => atPos ER (barC c) 0 ∅ 0)
        ∗ (BI.bigSep Finset.univ fun c : Dev nD => BI.bigSep Finset.univ fun j : J => openTok ER ((c : Thread nD τ), osem j))
        ∗ (BI.bigSep Finset.univ fun c : Dev nD => tokIn c) ∗ (BI.bigSep Finset.univ fun c : Dev nD => credIn c)) := by
    unfold share; simp only [bs]
  iapply (Entails.of_eq hs.symm)
  isplitl [Ha]; · iapply ha $$ Ha
  isplitl [Ho]; · iapply ho $$ Ho
  isplitl [Ht]; · iapply ht $$ Ht
  iexact Hc

end Cert.KernelIdeal.Wg

end
-- ==== Proof.KI.Run.lean ====
/- The whole program's run. -/
module

public import proofs.«01_k».proof.Proof.KI.Region
public import proofs.«01_k».proof.Proof.KI.Fund
public import Idealize.ShloMosaic.Lib.Quiescent

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

set_option maxRecDepth 65536
variable (m : (ℓ : Loc nD τ sig) → Buf (Elt F) ℓ) (ρ : Dev nD → PrngReg)

theorem sems_eq (c : Dev nD) : (unscopedSems0 c : sProp 𝕄) = semVal (barC c) 0 := by
  unfold unscopedSems0
  rw [show (Finset.univ.filter fun sm : SemLoc sig => ¬ sm.isScoped .tc = true) = {.reg barrier0} from by decide +kernel]
  exact BI.bigSep_singleton

theorem unscoped_eq : ∀ sm : SemLoc sig, sm.isScoped .tc = false → sm = .reg barrier0 := by decide +kernel

abbrev EP : Emb (UR sig nD τ) 𝕄 := embL
abbrev u₀ : UU := (initOf (Pipeline.cells cfgs cellOf_inj) (Pipeline.launchToks cfgs cellOf_inj), launchOf barCells ownCells toks)
/-- The launch element, parked on device 0. -/
def seed (c : Dev nD) : sProp 𝕄 := if c = 0 then BI.own (ER (launchOf barCells ownCells toks)) else iprop(emp)
theorem seed_all : (BI.bigSep Finset.univ fun c : Dev nD => (seed c : sProp 𝕄)) = BI.own (ER (launchOf barCells ownCells toks)) := by
  rw [BI.bigSep_univ_at _ (0 : Dev nD), BI.bigSep_congr (s := Finset.univ.erase (0 : Dev nD)) (Ψ := fun _ => (BI.emp : sProp 𝕄)) fun c hc => by unfold seed; exact if_neg (Finset.ne_of_mem_erase hc), BI.bigSep_emp_const]
  unfold seed
  rw [if_pos rfl]
  exact BI.equiv_iff.mp sep_emp

theorem init :
    iprop((BI.bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ seed c)) ∗ levAts L lv)
      ⊢ (|={Set.univ}=> (BI.bigSep Finset.univ fun c : Dev nD => iprop(StableHlo.held (c : Thread nD τ) (Pipeline.ucRefs τ sig) (V0 m c) ∗ E m 0 c)) : sProp 𝕄) := by
  have hb (c : Dev nD) : (unscopedBufs c (fun b => m ((c : Thread nD τ).loc b)) : sProp 𝕄) = StableHlo.held (c : Thread nD τ) (Pipeline.ucRefs τ sig) (V0 m c) := by
    rw [← Pipeline.unscopedBufs_held (Ix := Unit) (Name := ℕ) (U := UU) (Lvl := ℕ) c (V0 m c)]
  have hs : (BI.bigSep Finset.univ fun c : Dev nD => iprop(unscopedBufs c (fun b => m ((c : Thread nD τ).loc b)) ∗ unscopedSems0 c
          ∗ owes (c : Thread nD τ) (owed c 0) ∅ ∗ Pipeline.launchCred (fun d => owed d 0) c ∗ prngReg c (ρ c) ∗ seed c) : sProp 𝕄)
      ⊢ iprop((BI.bigSep Finset.univ fun c : Dev nD => StableHlo.held (c : Thread nD τ) (Pipeline.ucRefs τ sig) (V0 m c))
        ∗ (BI.bigSep Finset.univ fun c : Dev nD => semVal (barC c) 0)
        ∗ (BI.bigSep Finset.univ fun c : Dev nD => owes (c : Thread nD τ) (owed c 0) ∅)
        ∗ (BI.bigSep Finset.univ fun c : Dev nD => Pipeline.launchCred (fun d => owed d 0) c)
        ∗ (BI.bigSep Finset.univ fun c : Dev nD => prngReg c (ρ c))
        ∗ BI.own (ER (launchOf barCells ownCells toks))) := by
    rw [← seed_all]
    simp only [← bs, hb, sems_eq]
    exact BI.Entails.refl _
  have hc : (BI.bigSep Finset.univ fun c : Dev nD => (Pipeline.launchCred (fun d => owed d 0) c : sProp 𝕄)) ⊢ BI.bigSep Finset.univ fun c : Dev nD => credIn c :=
    BI.bigSep_mono fun c _ => cred_in c
  have hE (c : Dev nD) : (iprop(kept (GG m) (TT m) c ∗ prngReg c (ρ c) ∗ owes (c : Thread nD τ) (owed c 0) ∅) : sProp 𝕄) ⊢ E m 0 c := by
    unfold E; rw [if_pos rfl]
    iintro ⟨Hk, Hp, Ho⟩
    isplitl [Hk]; · iexact Hk
    isplitl [Hp]
    · iexists ρ c; iexact Hp
    iexists ∅; iexact Ho
  have hj : iprop((BI.bigSep Finset.univ fun c : Dev nD => StableHlo.held (c : Thread nD τ) (Pipeline.ucRefs τ sig) (V0 m c))
        ∗ (BI.bigSep Finset.univ fun c : Dev nD => kept (GG m) (TT m) c)
        ∗ (BI.bigSep Finset.univ fun c : Dev nD => prngReg c (ρ c))
        ∗ (BI.bigSep Finset.univ fun c : Dev nD => owes (c : Thread nD τ) (owed c 0) ∅))
      ⊢ (BI.bigSep Finset.univ fun c : Dev nD => iprop(StableHlo.held (c : Thread nD τ) (Pipeline.ucRefs τ sig) (V0 m c) ∗ E m 0 c) : sProp 𝕄) := by
    simp only [← bs]
    exact BI.bigSep_mono fun c _ => BI.sep_mono (BI.Entails.refl _) (hE c)
  iintro ⟨H, #Hl⟩
  ihave H' := hs $$ H
  icases H' with ⟨Hh, Hv, Ho, Hc, Hp, Hu⟩
  ihave Hc' := hc $$ Hc
  imod (fund (GG m) (TT m)) $$ [Hv Hc' Hu] with Hk
  · isplitl [Hv]; · iexact Hv
    isplitl [Hc']; · iexact Hc'
    isplitl [Hu]; · iexact Hu
    iexact Hl
  imodintro
  iapply hj
  isplitl [Hh]; · iexact Hh
  isplitl [Hk]; · iexact Hk
  isplitl [Hp]; · iexact Hp
  iexact Ho

theorem held_read (c : Dev nD) (s' : Phys nD τ sig (Elt F)) :
    (iprop((StableHlo.held (c : Thread nD τ) (Pipeline.ucRefs τ sig) (V5 m (outs m) c) ∗ bar0 c) ∗ SI s') : sProp 𝕄)
      ⊢ |={Set.univ}=> iprop(⌜(s'.mem.mem ((c : Thread nD τ).loc main_arg0) = m ((c : Thread nD τ).loc main_arg0)
        ∧ s'.mem.mem ((c : Thread nD τ).loc main_arg1) = m ((c : Thread nD τ).loc main_arg1)
        ∧ s'.mem.mem ((c : Thread nD τ).loc main_v18) = V5 m (outs m) c (Proc.devRef .tc main_v18)) ∧ s'.mem.sem (barC c) = 0⌝ ∗ SI s') := by
  unfold StableHlo.held bar0
  iintro ⟨⟨Hh, Hb⟩, HSI⟩
  icombine HSI Hb gives %hb
  ihave Hr := (pointsTo_read_all (Pipeline.ucRefs τ sig) (fun b => ((c : Thread nD τ).1, b)) (V5 m (outs m) c) s') $$ [Hh HSI]
  · isplitl [Hh] <;> iassumption
  icases Hr with ⟨%h, HSI⟩
  imodintro
  isplitr
  · ipureintro
    have hm (r : Ref sig .tc) (hr : ¬ (Proc.devRef .tc r : DevRef τ sig).isScoped = true) := h (Proc.devRef .tc r) (Finset.mem_filter.mpr ⟨StableHlo.devRef_mem_tcRefs r, hr⟩)
    exact ⟨⟨(hm main_arg0 (by decide)).trans (V5_main_arg0 m (outs m) c), (hm main_arg1 (by decide)).trans (V5_main_arg1 m (outs m) c), hm main_v18 (by decide)⟩, by simpa using hb⟩
  · iexact HSI

set_option backward.isDefEq.respectTransparency.types false in
/-- Every run of the program ends, with both arguments as they were, the result as the host's last step leaves it, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v18) = V5 m (outs m) c (Proc.devRef .tc main_v18)) ∧ r.2.sem = fun _ => 0) :=
  Pipeline.θ_run_regions_kit_dev_sems (pcfgs (F := F)) adm (pdats m) () cellOf_inj EP defs₀ 𝒱₀ L lv m ρ main (segs m (outs m) 𝒱₀ L lv (E m) () (pdats m) (reg0 m))
    (fun c Q => by
      rewrite [main_chain c, Pipeline.Seg.run_eq_chain, show (segs m (outs m) 𝒱₀ L lv (E m) () (pdats m) (reg0 m) c).map Pipeline.Seg.prog = [StableHlo.seq (hostOps0 c), StableHlo.seq hostOps0_1, StableHlo.seq hostOps0_2, Prog.lift (.customCall (Pipeline.entry 0) ()), StableHlo.seq hostOps1] from rfl]
      dsimp (config := { failIfUnchanged := false }) only
      exact BI.Entails.refl _)
    (fun c => by simp only [segs, Pipeline.Seg.pipes_host, Pipeline.Seg.pipes_region, Pipeline.Seg.pipes_nil]; decide)
    (fun c => owed c 0) (fun g h => if_neg h) seed u₀
    (by
      iintro Hu
      ihave H := (ownU_pair _ _) $$ Hu
      icases H with ⟨HP, HX⟩
      imodintro
      isplitl [HP]; · iexact HP
      iapply (Entails.of_eq (seed_all (F := F)).symm)
      iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V5 m (outs m) c) ∗ bar0 c))
    (hch := fun c => ⟨BI.Entails.refl _, BI.Entails.refl _, BI.Entails.refl _, reg0_pre m c, reg0_post m c, by
      show iprop(StableHlo.held (c : Thread nD τ) (Pipeline.ucRefs τ sig) (V5 m (outs m) c) ∗ E m 1 c) ⊢ _
      unfold E; rw [if_neg (by decide)]
      iintro ⟨Hh, Hb, Ho⟩
      isplitr [Ho]
      · isplitl [Hh] <;> iassumption
      · iexact Ho⟩)
    (hinit := init m ρ)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_v18) = V5 m (outs m) c (Proc.devRef .tc main_v18)) ∧ s.sem (barC c) = 0)
    (hfin := held_read m)
    (hQ := fun s h hs => ⟨fun c => (h c).1, sem_eq_zero hs fun c sm hsm => by
      obtain rfl := unscoped_eq sm hsm
      exact (h c).2⟩)

end Cert.KernelIdeal.Wg

end
-- ==== Proof.KI.Value.lean ====
/- What the program leaves, number by number, over the extended reals. -/
module

public import proofs.«01_k».proof.Proof.KI.Run
public import Idealize.ShloMosaic.Lib.Pointwise
public import Idealize.ShloMosaic.Lib.StableHlo.Run
public import Idealize.ShloMosaic.PureOps.Ideal

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## The columns the host takes -/

section Host
variable (m : (ℓ : Loc nD τ sig) → Buf (Elt F) ℓ) (c : Dev nD)

/-- The word the host finds for a device's place in its ring, -/
def plcW (c : Dev nD) : S_.Idx → BitVec 32 :=
  select (cmpi .eq (Host.remui (Host.divui (constantI S_ 32 (Dev.word c)) (constantI S_ 32 4#32)) (constantI S_ 32 2#32)) (constantI S_ 32 0#32))
    (Host.remui (Host.divui (constantI S_ 32 (Dev.word c)) (constantI S_ 32 1#32)) (constantI S_ 32 4#32))
    (subi (constantI S_ 32 7#32) (Host.remui (Host.divui (constantI S_ 32 (Dev.word c)) (constantI S_ 32 1#32)) (constantI S_ 32 4#32)))
/-- and for the first of its columns. -/
def colW (c : Dev nD) : S_.Idx → BitVec 32 :=
  select (cmpi .slt (muli (plcW c) (constantI S_ 32 1024#32)) (constantI S_ 32 0#32))
    (addi (muli (plcW c) (constantI S_ 32 1024#32)) (constantI S_ 32 8192#32)) (muli (plcW c) (constantI S_ 32 1024#32))
theorem colW_val : ∀ c : Dev nD, (colW c (Shape.Idx.first h_S_)).toInt = ((1024 * plc c : ℕ) : ℤ) := by decide +kernel

theorem col11 : V2 m c (Proc.devRef .tc main_v11) = plcW c := by
  unfold V2 V1 plcW
  after_results
  rfl
theorem arg1_at : V2 m c (Proc.devRef .tc main_arg1) = m (c, Proc.devRef .tc main_arg1) :=
  (V2_of m c main_arg1 (by decide)).trans ((V1_of m c main_arg1 (by decide)).trans rfl)

/-- The last stretch but for the slice itself. -/
abbrev ops8 : List (HloOp τ sig (Elt F)) :=
  [ StableHlo.nullary main_c_5 (constantI S_ 32 1024#32),
    StableHlo.binary main_v11 main_c_5 main_v12 (muli : (⟨S_, .i32⟩ : BufTy).Contents (Elt F) → (⟨S_, .i32⟩ : BufTy).Contents (Elt F) → (⟨S_, .i32⟩ : BufTy).Contents (Elt F)),
    StableHlo.nullary main_c_6 (constantI S_ 32 0#32),
    StableHlo.binary main_v12 main_c_6 main_v13 (cmpi .slt : (⟨S_, .i32⟩ : BufTy).Contents (Elt F) → (⟨S_, .i32⟩ : BufTy).Contents (Elt F) → (⟨S_, .i1⟩ : BufTy).Contents (Elt F)),
    StableHlo.nullary main_c_7 (constantI S_ 32 8192#32),
    StableHlo.binary main_v12 main_c_7 main_v14 (addi : (⟨S_, .i32⟩ : BufTy).Contents (Elt F) → (⟨S_, .i32⟩ : BufTy).Contents (Elt F) → (⟨S_, .i32⟩ : BufTy).Contents (Elt F)),
    StableHlo.ternary main_v13 main_v14 main_v12 main_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_c_8 (constantI S_ 32 0#32) ]
theorem ops8_c (W : Valuation τ sig (Elt F)) : StableHlo.after ops8 W (Proc.devRef .tc main_c_8) = constantI S_ 32 0#32 := by after_results
theorem ops8_x (W : Valuation τ sig (Elt F)) : StableHlo.after ops8 W (Proc.devRef .tc main_arg1) = W (Proc.devRef .tc main_arg1) := by after_results
theorem ops8_v (W : Valuation τ sig (Elt F)) : StableHlo.after ops8 W (Proc.devRef .tc main_v15)
    = select (cmpi .slt (muli (W (Proc.devRef .tc main_v11)) (constantI S_ 32 1024#32)) (constantI S_ 32 0#32))
      (addi (muli (W (Proc.devRef .tc main_v11)) (constantI S_ 32 1024#32)) (constantI S_ 32 8192#32)) (muli (W (Proc.devRef .tc main_v11)) (constantI S_ 32 1024#32)) := by after_results
/-- Where the slice starts. -/
def from0 (c : Dev nD) : Fin 2 → ℤ
  | 0 => 0
  | 1 => ((1024 * plc c : ℕ) : ℤ)
theorem cols : V3 m c (Proc.devRef .tc main_v16)
    = Host.dynamicSlice S2048x1024 (m (c, Proc.devRef .tc main_arg1)) (from0 c) sliceFits_S2048x8192_S2048x1024 := by
  have h : V3 m c = HloOp.result (StableHlo.unaryIndexed main_arg1 ![main_c_8, main_v15] ⟨S_, .i32⟩ main_v16 ((fun x i => Host.dynamicSlice S2048x1024 x (fun k => (i k (Shape.Idx.first h_S_)).toInt) sliceFits_S2048x8192_S2048x1024) : (⟨S2048x8192, .bf16⟩ : BufTy).Contents (Elt F) → (Fin 2 → (⟨S_, .i32⟩ : BufTy).Contents (Elt F)) → (⟨S2048x1024, .bf16⟩ : BufTy).Contents (Elt F)))
    (StableHlo.after ops8 (V2 m c)) := rfl
  rw [h, StableHlo.unaryIndexed_result' , ops8_x, arg1_at]
  refine congrArg (fun w => Host.dynamicSlice S2048x1024 (m (c, Proc.devRef .tc main_arg1)) w sliceFits_S2048x8192_S2048x1024) (funext fun k => ?_)
  match k with
  | 0 => exact (congrArg (fun f : S_.Idx → BitVec 32 => (f (Shape.Idx.first h_S_)).toInt) (ops8_c (V2 m c))).trans rfl
  | 1 =>
    refine (congrArg (fun f : S_.Idx → BitVec 32 => (f (Shape.Idx.first h_S_)).toInt) (ops8_v (V2 m c))).trans ?_
    rw [col11 m c]
    exact colW_val c

theorem blkA_eq : blkA m c = m (c, Proc.devRef .tc main_arg0) := by
  have h : V3 m c (Proc.devRef .tc main_arg0) = m (c, Proc.devRef .tc main_arg0) :=
    (V3_of m c main_arg0 (by decide)).trans ((V2_of m c main_arg0 (by decide)).trans ((V1_of m c main_arg0 (by decide)).trans rfl))
  rw [← h]
  funext i
  refine congrArg (V3 m c (Proc.devRef .tc main_arg0)) (funext fun a => Fin.ext ?_)
  match a with
  | 0 => show 0 * 2048 + 1 * (i 0).val = _; omega
  | 1 => show 0 * 2048 + 1 * (i 1).val = _; omega
theorem blkB_eq (n : Fin 2048) (k : Fin 1024) (q : Fin 8192) (hq : q.val = 1024 * plc c + k.val) :
    blkB m c (ix2 n k) = m (c, Proc.devRef .tc main_arg1) (ix2 n q) := by
  have h : blkB m c (ix2 n k) = V3 m c (Proc.devRef .tc main_v16) (ix2 n k) := by
    refine congrArg (V3 m c (Proc.devRef .tc main_v16)) (funext fun a => Fin.ext ?_)
    match a with
    | 0 => show 0 * 2048 + 1 * n.val = n.val; omega
    | 1 => show 0 * 1024 + 1 * k.val = k.val; omega
  rw [h, cols, Host.dynamicSlice_apply]
  have hp : plc c < 8 := (by decide : ∀ c : Dev nD, plc c < 8) c
  refine congrArg (m (c, Proc.devRef .tc main_arg1)) (funext fun a => Fin.ext ?_)
  match a with
  | 0 =>
    show Host.clampedStart S2048x8192 S2048x1024 rfl (from0 c) 0 + n.val = n.val
    rw [Host.clampedStart_of_le (s := S2048x8192) (t := S2048x1024) rfl (from0 c) 0 0 rfl (by decide)]; omega
  | 1 =>
    show Host.clampedStart S2048x8192 S2048x1024 rfl (from0 c) 1 + k.val = q.val
    rw [Host.clampedStart_of_le (s := S2048x8192) (t := S2048x1024) rfl (from0 c) 1 (1024 * plc c) rfl (by show 1024 * plc c + 1024 ≤ 8192; omega)]; omega
end Host

/-! ## A device's products -/

section Products

/-- The entry of `xᵀy`. -/
def dotAt {a b : ℕ} (x : (⟨2, ![2048, a]⟩ : Shape).Idx → EReal) (y : (⟨2, ![2048, b]⟩ : Shape).Idx → EReal) (r : Fin a) (k : Fin b) : EReal :=
  ∑ n : Fin 2048, x (ix2 n r) * y (ix2 n k)
/-- A lane's column of a block. -/
def qcol (l : Fin 4) (k : Fin 256) : Fin 1024 := ⟨256 * qtr l + k.val, by have := (by decide : ∀ l, qtr l < 4) l; omega⟩

variable (x y : S2048x1024.Idx → Elt Ideal .bf16) (r : Fin 1024) (k : Fin 256)

theorem pay7_at (q : Fin 1024) : k0_pay7 (F := Ideal) (k0_pay1 y) x (ix2 r q) = dotAt x y r q := by
  unfold dotAt; pointwise [k0_pay7, k0_pay1]
theorem payP_at : ∀ l : Fin 4, sq3 (payP (F := Ideal) l y x) (ix2 r k) = dotAt x y r (qcol l k)
  | 0 => by unfold dotAt qcol qtr sq3 payP; pointwise [k0_pay3, k0_pay2, k0_pay1]
  | 1 => by unfold dotAt qcol qtr sq3 payP; pointwise [k0_pay4, k0_pay2, k0_pay1]
  | 2 => by unfold dotAt qcol qtr sq3 payP; pointwise [k0_pay5, k0_pay2, k0_pay1]
  | 3 => by unfold dotAt qcol qtr sq3 payP; pointwise [k0_pay6, k0_pay2, k0_pay1]
theorem un3_at (X : S1024x256.Idx → Elt Ideal .bf16) : un3 X (ix3 0 r k) = X (ix2 r k) := by
  refine congrArg X ((Equiv.symm_apply_eq _).mpr ?_)
  pointwise
theorem payM_at (w : FVec Ideal S1024x1024 .f32) (X : S1024x256.Idx → Elt Ideal .bf16) :
    ∀ l : Fin 4, sq4 (payM (F := Ideal) l w (un3 X)) (ix2 r k) = w (ix2 r (qcol l k)) + X (ix2 r k)
  | 0 => by unfold qcol qtr sq4 payM; pointwise [k0_pay8]; rw [un3_at]
  | 1 => by unfold qcol qtr sq4 payM; pointwise [k0_pay9]; rw [un3_at]
  | 2 => by unfold qcol qtr sq4 payM; pointwise [k0_pay10]; rw [un3_at]
  | 3 => by unfold qcol qtr sq4 payM; pointwise [k0_pay11, k0_pay12]; rw [un3_at]

variable (A : Dev nD → S2048x2048.Idx → Elt Ideal .bf16) (B : Dev nD → S2048x1024.Idx → Elt Ideal .bf16) (c : Dev nD)

theorem yv_eq : yv B c = B c := by
  funext i
  refine congrArg (B c) (funext fun a => Fin.ext ?_)
  match a with
  | 0 => show 0 + 1 * (i 0).val = _; omega
  | 1 => show 0 + 1 * (i 1).val = _; omega
theorem xm_at (n : Fin 2048) (R : Fin 2048) (hR : R.val = 1024 * (c.val / 8) + r.val) : xm A c (ix2 n r) = A c (ix2 n R) := by
  refine congrArg (A c) (funext fun a => Fin.ext ?_)
  match a with
  | 0 => show k0_off2 c 0 + 1 * n.val = n.val; rw [off2_eq c 0]; show 0 + 1 * n.val = n.val; omega
  | 1 => show k0_off2 c 1 + 1 * r.val = R.val; rw [off2_eq c 1]; show 1024 * (c.val / 8) + 1 * r.val = R.val; omega
theorem xo_at (n : Fin 2048) (R : Fin 2048) (hR : R.val = 1024 * ((par c).val / 8) + r.val) : xo A c (ix2 n r) = A c (ix2 n R) := by
  refine congrArg (A c) (funext fun a => Fin.ext ?_)
  match a with
  | 0 => show k0_off1 c 0 + 1 * n.val = n.val; rw [off1_eq c 0]; show 0 + 1 * n.val = n.val; omega
  | 1 => show k0_off1 c 1 + 1 * r.val = R.val; rw [off1_eq c 1]; show 1024 * ((par c).val / 8) + 1 * r.val = R.val; omega

/-- A tile of sums is a tile of the product, over the device's rows and its partner's. -/
theorem Tv_at (l : Fin 4) (R : Fin 2048) (hR : R.val = 1024 * (c.val / 8) + r.val) :
    Tv A B c l (ix2 r k) = dotAt (A c) (B c) R (qcol l k) + dotAt (A (par c)) (B (par c)) R (qcol l k) := by
  unfold Tv Gv
  rw [payM_at, pay7_at, payP_at, yv_eq, yv_eq]
  unfold dotAt
  congr 1
  · exact Finset.sum_congr rfl fun n _ => by rw [xm_at r A c n R hR]
  · exact Finset.sum_congr rfl fun n _ => by rw [xo_at r A (par c) n R (by rw [par_par]; exact hR)]
end Products

end Cert.KernelIdeal.Wg

end
-- ==== Proof.KI.Result.lean ====
/- Every device's result is its part of the product. -/
module

public import proofs.«01_k».proof.Proof.KI.Value

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## The result -/

section Result
variable (m : (ℓ : Loc nD τ sig) → Buf (Elt Ideal) ℓ)
variable (X : (⟨2, ![4096, 2048]⟩ : Shape).Idx → EReal) (Y : (⟨2, ![4096, 8192]⟩ : Shape).Idx → EReal)

/-- Row `n` of the half of the rows that a device holds. -/
def hrow (c : Dev nD) (n : Fin 2048) : Fin 4096 := ⟨2048 * (c.val / 8) + n.val, by have h : c.val < 16 := c.isLt; have := n.isLt; omega⟩
/-- The product of the whole arrays. -/
def prodAt (R : Fin 2048) (q : Fin 8192) : EReal := ∑ n : Fin 4096, X (ix2 n R) * Y (ix2 n q)

theorem low_lt (n : Fin 2048) : n.val < 4096 := lt_of_lt_of_le n.isLt (by omega)
theorem high_lt (n : Fin 2048) : 2048 + n.val < 4096 := by have := n.isLt; omega
theorem hrow_low (d : Dev nD) (hd : d.val / 8 = 0) (n : Fin 2048) : hrow d n = ⟨n.val, low_lt n⟩ :=
  Fin.ext (show 2048 * (d.val / 8) + n.val = n.val by omega)
theorem hrow_high (d : Dev nD) (hd : d.val / 8 = 1) (n : Fin 2048) : hrow d n = ⟨2048 + n.val, high_lt n⟩ :=
  Fin.ext (show 2048 * (d.val / 8) + n.val = 2048 + n.val by omega)

theorem split_rows (f : Fin 4096 → EReal) :
    ∑ n : Fin 4096, f n = (∑ n : Fin 2048, f ⟨n.val, low_lt n⟩) + ∑ n : Fin 2048, f ⟨2048 + n.val, high_lt n⟩ :=
  Fin.sum_univ_two_halves 2048 2048 (by norm_num) f

theorem far_half (c : Dev nD) : (c.val / 8 = 0 ∧ (par c).val / 8 = 1) ∨ (c.val / 8 = 1 ∧ (par c).val / 8 = 0) := by
  revert c; decide

theorem halves_of (f : Fin 4096 → EReal) (c : Dev nD) :
    (∑ n : Fin 2048, f (hrow c n)) + (∑ n : Fin 2048, f (hrow (par c) n)) = ∑ n : Fin 4096, f n := by
  rw [split_rows f]
  rcases far_half c with ⟨hc, hp⟩ | ⟨hc, hp⟩
  · exact congrArg₂ (· + ·) (Finset.sum_congr rfl fun n _ => congrArg f (hrow_low c hc n)) (Finset.sum_congr rfl fun n _ => congrArg f (hrow_high _ hp n))
  · rw [add_comm]
    exact congrArg₂ (· + ·) (Finset.sum_congr rfl fun n _ => congrArg f (hrow_low _ hp n)) (Finset.sum_congr rfl fun n _ => congrArg f (hrow_high c hc n))

theorem halves (c : Dev nD) (R : Fin 2048) (q : Fin 8192) :
    (∑ n : Fin 2048, X (ix2 (hrow c n) R) * Y (ix2 (hrow c n) q)) + (∑ n : Fin 2048, X (ix2 (hrow (par c) n) R) * Y (ix2 (hrow (par c) n) q)) = prodAt X Y R q :=
  halves_of (fun n => X (ix2 n R) * Y (ix2 n q)) c

/-- Every device's result: its half of the rows of the product. -/
theorem result_at (hA : ∀ (d : Dev nD) (n : Fin 2048) (j : Fin 2048), m (d, Proc.devRef .tc main_arg0) (ix2 n j) = X (ix2 (hrow d n) j))
    (hB : ∀ (d : Dev nD) (n : Fin 2048) (j : Fin 8192), m (d, Proc.devRef .tc main_arg1) (ix2 n j) = Y (ix2 (hrow d n) j))
    (c : Dev nD) (r : Fin 1024) (q : Fin 8192) (R : Fin 2048) (hR : R.val = 1024 * (c.val / 8) + r.val) :
    V5 m (outs m) c (Proc.devRef .tc main_v18) (ix2 r q) = prodAt X Y R q := by
  have h5 : V5 m (outs m) c (Proc.devRef .tc main_v18) = (V4 m (outs m) c (Proc.devRef .tc main_v17) : S1024x8192.Idx → EReal) := by
    unfold V5; after_results; rfl
  rw [h5, V4_out]
  have hd : ∀ (c : Dev nD) (p : Fin 8), (dv (c.val / 8) p.val).val / 8 = c.val / 8 ∧ plc (dv (c.val / 8) p.val) = p.val ∧ plc (par (dv (c.val / 8) p.val)) = p.val := by decide +kernel
  have hp : q.val / 1024 < 8 := by have := q.isLt; omega
  obtain ⟨hd1, hd2, hd3⟩ := hd c ⟨q.val / 1024, hp⟩
  have hq4 : q.val % 1024 / 256 < 4 := by omega
  have hl : qtr (lane (q.val % 1024 / 256)) = q.val % 1024 / 256 := qtr_lane ⟨q.val % 1024 / 256, hq4⟩
  show TT m (dv (c.val / 8) (q.val / 1024)) (lane (q.val % 1024 / 256)) _ = _
  generalize hde : dv (c.val / 8) (q.val / 1024) = d at *
  have hk : q.val % 256 < 256 := Nat.mod_lt _ (by decide)
  refine (congrArg (TT m d (lane (q.val % 1024 / 256))) (show _ = ix2 r ⟨q.val % 256, hk⟩ from ?_)).trans ?_
  · funext a
    match a with
    | 0 => rfl
    | 1 => rfl
  refine (Tv_at r ⟨q.val % 256, hk⟩ (blkA m) (blkB m) d _ R (by rw [hd1]; exact hR)).trans ?_
  rw [← halves X Y d R q]
  have hcol : (qcol (lane (q.val % 1024 / 256)) ⟨q.val % 256, hk⟩).val = q.val % 1024 := by
    show 256 * qtr (lane (q.val % 1024 / 256)) + q.val % 256 = _
    rw [hl]; omega
  have one (e : Dev nD) (he : plc e = q.val / 1024) :
      dotAt (blkA m e) (blkB m e) R (qcol (lane (q.val % 1024 / 256)) ⟨q.val % 256, hk⟩) = ∑ n : Fin 2048, X (ix2 (hrow e n) R) * Y (ix2 (hrow e n) q) := by
    unfold dotAt
    refine Finset.sum_congr rfl fun n _ => ?_
    rw [blkA_eq, blkB_eq m e n _ q (by rw [hcol, he]; omega), hA, hB]
  rw [one d hd2, one (par d) hd3]
end Result

end Cert.KernelIdeal.Wg

end
-- ==== Proof.KI.Parts.lean ====
/- Each device's part of the whole arrays, and the reference's product at an entry. -/
module

public import proofs.«01_k».proof.Proof.KI.Result
public import proofs.«01_k».proof.Proof.Gen.ReferenceIdeal.Run
public import Idealize.ShloMosaic.Lib.Layout

@[expose] public section

noncomputable section

namespace Cert.KernelIdeal.Wg

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]

local notation "𝕄" => MT nD τ sig Unit (Elt F) ℕ UU ℕ

/-! ## The parts of the whole arrays, and the reference's product -/

section Parts
variable {α : Type}

/-- The block of rows a device holds. -/
theorem place_val (c : Dev nD) : (Layout.meshLin [2, 2, 4] c.val [0]) = c.val / 8 := by
  revert c; decide

theorem part_a (v : (⟨2, ![4096, 2048]⟩ : Shape).Idx → α) (c : Dev nD) (n : Fin 2048) (j : Fin 2048) :
    (Layout.blockN ⟨2, ![2048, 2048]⟩ ⟨2, ![4096, 2048]⟩ (Layout.meshBlock [2, 2, 4] ![[0], []] c) v) (ix2 n j) = v (ix2 (hrow c n) j) := by
  rw [Layout.blockN_apply]
  refine congrArg v (funext fun b => Fin.ext ?_)
  rw [Layout.TilesN.idx_val]
  match b with
  | 0 =>
    show Layout.meshLin [2, 2, 4] c.val [0] * 2048 + n.val = 2048 * (c.val / 8) + n.val
    rw [place_val]; omega
  | 1 =>
    show 0 * 2048 + j.val = j.val
    omega

theorem part_b (v : (⟨2, ![4096, 8192]⟩ : Shape).Idx → α) (c : Dev nD) (n : Fin 2048) (j : Fin 8192) :
    (Layout.blockN ⟨2, ![2048, 8192]⟩ ⟨2, ![4096, 8192]⟩ (Layout.meshBlock [2, 2, 4] ![[0], []] c) v) (ix2 n j) = v (ix2 (hrow c n) j) := by
  rw [Layout.blockN_apply]
  refine congrArg v (funext fun b => Fin.ext ?_)
  rw [Layout.TilesN.idx_val]
  match b with
  | 0 =>
    show Layout.meshLin [2, 2, 4] c.val [0] * 2048 + n.val = 2048 * (c.val / 8) + n.val
    rw [place_val]; omega
  | 1 =>
    show 0 * 8192 + j.val = j.val
    omega

/-- Row `r` of a device's half of the result's rows. -/
def orow (c : Dev nD) (r : Fin 1024) : Fin 2048 := ⟨1024 * (c.val / 8) + r.val, by have h : c.val < 16 := c.isLt; have := r.isLt; omega⟩

theorem part_o (v : (⟨2, ![2048, 8192]⟩ : Shape).Idx → α) (c : Dev nD) (r : Fin 1024) (q : Fin 8192) :
    (Layout.blockN ⟨2, ![1024, 8192]⟩ ⟨2, ![2048, 8192]⟩ (Layout.meshBlock [2, 2, 4] ![[0], []] c) v) (ix2 r q) = v (ix2 (orow c r) q) := by
  rw [Layout.blockN_apply]
  refine congrArg v (funext fun b => Fin.ext ?_)
  rw [Layout.TilesN.idx_val]
  match b with
  | 0 =>
    show Layout.meshLin [2, 2, 4] c.val [0] * 1024 + r.val = 1024 * (c.val / 8) + r.val
    rw [place_val]; omega
  | 1 =>
    show 0 * 8192 + q.val = q.val
    omega

/-- The reference's value: the product, rounded to the arguments' type and back. -/
def refWhole (X : (⟨2, ![4096, 2048]⟩ : Shape).Idx → EReal) (Y : (⟨2, ![4096, 8192]⟩ : Shape).Idx → EReal) :
    (⟨2, ![2048, 8192]⟩ : Shape).Idx → EReal :=
  extf (F := Ideal) .f32 (truncf (F := Ideal) .bf16
    (Host.dotGeneral (F := Ideal) (φ₁ := .bf16) (φ₂ := .bf16) Cert.ReferenceIdeal.dot_S2048x4096_S4096x8192_S2048x8192_1_0_0_1_n_n none
      (transpose Cert.ReferenceIdeal.S2048x4096 [1, 0] X Cert.ReferenceIdeal.Gen.transposes_S4096x2048_S2048x4096_1_0) Y)
    Cert.ReferenceIdeal.Gen.bitsLt_bf16_f32) Cert.ReferenceIdeal.Gen.bitsLt_bf16_f32

/-- At an entry it is the sum over all rows. -/
theorem ref_at (X : (⟨2, ![4096, 2048]⟩ : Shape).Idx → EReal) (Y : (⟨2, ![4096, 8192]⟩ : Shape).Idx → EReal) (R : Fin 2048) (q : Fin 8192) :
    refWhole X Y (ix2 R q) = prodAt X Y R q := by
  unfold prodAt
  pointwise [refWhole]

end Parts

end Cert.KernelIdeal.Wg

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.K.Run
public import proofs.«01_k».proof.Proof.KI.Run
public import proofs.«01_k».proof.Proof.KI.Result
public import proofs.«01_k».proof.Proof.KI.Parts
public import Idealize.ShloMosaic.Lib.Quiescent
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts

/-- The kernel as printed runs, keeps its arguments and ends with every counter at zero. -/
theorem frame_kernel : Cert.quiescent_Kernel := fun m g _ =>
  (θ_run Cert.Kernel.defs _ _).mono (fun _ h => ⟨fun c => ⟨(h.1 c).1, (h.1 c).2.1⟩, h.2⟩) (Cert.Kernel.Wg.run_main (F := Bits) m g)

/-- So does the idealized kernel. -/
theorem frame_ideal : Cert.quiescent_KernelIdeal := fun m g _ =>
  (θ_run Cert.KernelIdeal.defs _ _).mono (fun _ h => ⟨fun c => ⟨(h.1 c).1, (h.1 c).2.1⟩, h.2⟩) (Cert.KernelIdeal.Wg.run_main (F := Ideal) m g)

/-- So does the reference, which has no counters. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The whole product, as the reference computes it. -/
def whole (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_v3) :=
  Cert.KernelIdeal.Wg.refWhole
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))

/-- On the extended reals each device's result is its part of the reference's. -/
theorem same : Cert.algebraic_KernelIdeal_ReferenceIdeal := fun m g m' g' _ hpart => by
  refine ⟨whole m', (θ_run Cert.KernelIdeal.defs _ _).mono (fun r h c => ⟨(h.1 c).2.2.trans ?_, (h.1 c).1, (h.1 c).2.1⟩)
      (Cert.KernelIdeal.Wg.run_main (F := Ideal) m g),
    (θ_run Cert.ReferenceIdeal.defs _ _).mono (fun _ h => ⟨(h 0).1, (h 0).2⟩) (Cert.ReferenceIdeal.Value.run (F := Ideal) m' g')⟩
  refine funext fun (i : (⟨2, ![1024, 8192]⟩ : Shape).Idx) => ?_
  rw [eq_ix2 i]
  refine (Cert.KernelIdeal.Wg.result_at m
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (fun d n j => (congrFun (hpart d).1 (ix2 n j)).trans (Cert.KernelIdeal.Wg.part_a _ d n j))
    (fun d n j => (congrFun (hpart d).2 (ix2 n j)).trans (Cert.KernelIdeal.Wg.part_b _ d n j))
    c (i 0) (i 1) (Cert.KernelIdeal.Wg.orow c (i 0)) rfl).trans ?_
  exact ((Cert.KernelIdeal.Wg.part_o (whole m') c (i 0) (i 1)).trans (Cert.KernelIdeal.Wg.ref_at _ _ _ _)).symm

theorem claim : Cert.Claim := ⟨Cert.Kernel.Gen.facts, Cert.KernelIdeal.Gen.facts, Cert.ReferenceIdeal.Gen.facts,
  frame_kernel, frame_ideal, frame_reference, trivial, same⟩

end Cert.Proof

end
